-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_routes_in_range_KernelIdeal [hPre_routes_in_range_KernelIdeal : Cert.Pre_routes_in_range_KernelIdeal.Facts] (m : (ℓ : Loc Cert.KernelIdeal.nD Cert.KernelIdeal.τ Cert.KernelIdeal.sig) → Buf (Elt Ideal) ℓ) : Prop :=
  ∀ c : Dev Cert.KernelIdeal.nD,
    (Cert.Pre_routes_in_range_KernelIdeal.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_routes_in_range_ReferenceIdeal [hPre_routes_in_range_ReferenceIdeal : Cert.Pre_routes_in_range_ReferenceIdeal.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_routes_in_range_ReferenceIdeal.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ r.2.sem = fun _ => 0)

def quiescent_KernelIdeal_pre_routes_in_range_KernelIdeal [hKernelIdeal : Cert.KernelIdeal.Facts] [hPre_routes_in_range_KernelIdeal : Cert.Pre_routes_in_range_KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_routes_in_range_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0)

def quiescent_ReferenceIdeal_pre_routes_in_range_ReferenceIdeal [hReferenceIdeal : Cert.ReferenceIdeal.Facts] [hPre_routes_in_range_ReferenceIdeal : Cert.Pre_routes_in_range_ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_routes_in_range_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0)

def preserves_Kernel_KernelIdeal : Prop :=
  True

def algebraic_KernelIdeal_ReferenceIdeal_pre_routes_in_range_KernelIdeal [hKernelIdeal : Cert.KernelIdeal.Facts] [hReferenceIdeal : Cert.ReferenceIdeal.Facts] [hPre_routes_in_range_KernelIdeal : Cert.Pre_routes_in_range_KernelIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_routes_in_range_KernelIdeal m →
    (∀ c : Dev Cert.KernelIdeal.nD,
      m ((c.tc : Thread Cert.KernelIdeal.nD Cert.KernelIdeal.τ).loc Cert.KernelIdeal.main_arg0) = m' (((0 : Dev Cert.ReferenceIdeal.nD).tc : Thread Cert.ReferenceIdeal.nD Cert.ReferenceIdeal.τ).loc Cert.ReferenceIdeal.main_arg0)
      ∧ m ((c.tc : Thread Cert.KernelIdeal.nD Cert.KernelIdeal.τ).loc Cert.KernelIdeal.main_arg1) = m' (((0 : Dev Cert.ReferenceIdeal.nD).tc : Thread Cert.ReferenceIdeal.nD Cert.ReferenceIdeal.τ).loc Cert.ReferenceIdeal.main_arg1)
      ∧ m ((c.tc : Thread Cert.KernelIdeal.nD Cert.KernelIdeal.τ).loc Cert.KernelIdeal.main_arg2) = m' (((0 : Dev Cert.ReferenceIdeal.nD).tc : Thread Cert.ReferenceIdeal.nD Cert.ReferenceIdeal.τ).loc Cert.ReferenceIdeal.main_arg2)
      ∧ m ((c.tc : Thread Cert.KernelIdeal.nD Cert.KernelIdeal.τ).loc Cert.KernelIdeal.main_arg3) = Layout.block ⟨3, ![4, 256, 512]⟩ ⟨3, ![128, 256, 512]⟩ 0 32 c (m' (((0 : Dev Cert.ReferenceIdeal.nD).tc : Thread Cert.ReferenceIdeal.nD Cert.ReferenceIdeal.τ).loc Cert.ReferenceIdeal.main_arg3))) →
    ∃ (v0 : Buf (Elt Ideal) (((0 : Dev Cert.ReferenceIdeal.nD).tc : Thread Cert.ReferenceIdeal.nD Cert.ReferenceIdeal.τ).loc Cert.ReferenceIdeal.main_v15)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = v0
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r =>
          r.2.mem (((0 : Dev Cert.ReferenceIdeal.nD).tc : Thread Cert.ReferenceIdeal.nD Cert.ReferenceIdeal.τ).loc Cert.ReferenceIdeal.main_v15) = v0
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0)
          ∧ r.2.mem (((0 : Dev Cert.ReferenceIdeal.nD).tc : Thread Cert.ReferenceIdeal.nD Cert.ReferenceIdeal.τ).loc Cert.ReferenceIdeal.main_arg1) = m' (((0 : Dev Cert.ReferenceIdeal.nD).tc : Thread Cert.ReferenceIdeal.nD Cert.ReferenceIdeal.τ).loc Cert.ReferenceIdeal.main_arg1)
          ∧ r.2.mem (((0 : Dev Cert.ReferenceIdeal.nD).tc : Thread Cert.ReferenceIdeal.nD Cert.ReferenceIdeal.τ).loc Cert.ReferenceIdeal.main_arg2) = m' (((0 : Dev Cert.ReferenceIdeal.nD).tc : Thread Cert.ReferenceIdeal.nD Cert.ReferenceIdeal.τ).loc Cert.ReferenceIdeal.main_arg2)
          ∧ r.2.mem (((0 : Dev Cert.ReferenceIdeal.nD).tc : Thread Cert.ReferenceIdeal.nD Cert.ReferenceIdeal.τ).loc Cert.ReferenceIdeal.main_arg3) = m' (((0 : Dev Cert.ReferenceIdeal.nD).tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts) (hPre_routes_in_range_KernelIdeal : Cert.Pre_routes_in_range_KernelIdeal.Facts) (hPre_routes_in_range_ReferenceIdeal : Cert.Pre_routes_in_range_ReferenceIdeal.Facts),
    quiescent_Kernel (hKernel := hKernel)
    ∧ quiescent_KernelIdeal (hKernelIdeal := hKernelIdeal)
    ∧ quiescent_KernelIdeal_pre_routes_in_range_KernelIdeal (hKernelIdeal := hKernelIdeal) (hPre_routes_in_range_KernelIdeal := hPre_routes_in_range_KernelIdeal)
    ∧ quiescent_ReferenceIdeal (hReferenceIdeal := hReferenceIdeal)
    ∧ quiescent_ReferenceIdeal_pre_routes_in_range_ReferenceIdeal (hReferenceIdeal := hReferenceIdeal) (hPre_routes_in_range_ReferenceIdeal := hPre_routes_in_range_ReferenceIdeal)
    ∧ preserves_Kernel_KernelIdeal
    ∧ algebraic_KernelIdeal_ReferenceIdeal_pre_routes_in_range_KernelIdeal (hKernelIdeal := hKernelIdeal) (hReferenceIdeal := hReferenceIdeal) (hPre_routes_in_range_KernelIdeal := hPre_routes_in_range_KernelIdeal)
-- ==== Pre_routes_in_range_KernelIdeal.lean ====
abbrev S512x256 : Shape := ⟨2, ![512, 256]⟩
abbrev S256x128 : Shape := ⟨2, ![256, 128]⟩
abbrev S512x1 : Shape := ⟨2, ![512, 1]⟩
abbrev S4x256x512 : Shape := ⟨3, ![4, 256, 512]⟩
abbrev S_ : Shape := ⟨0, ![]⟩

class Facts : Prop where
  bcast_S_S512x1 : S_.BroadcastsInDim S512x1 (![] : Fin 0 → Fin S512x1.rank)
  reducesTo_S512x1_S_d0_1 : S512x1.ReducesTo [0, 1] S_
  h_S_ : 0 < S_.numel

variable [Facts]

def fn {F : FTy → Type} [FloatOps F] (main_arg0 : FVec F S512x256 .bf16) (main_arg1 : FVec F S256x128 .bf16) (main_arg2 : IVec S512x1 32) (main_arg3 : FVec F S4x256x512 .bf16) : IVec S_ 1 :=
  let main_c : IVec S_ 32 := constantI S_ 32 0#32
  let main_v0 : IVec S512x1 32 := broadcastInDim S512x1 ![] bcast_S_S512x1 main_c
  let main_v1 : IVec S512x1 1 := cmpi .sge main_arg2 main_v0
  let main_c_0 : IVec S_ 32 := constantI S_ 32 128#32
  let main_v2 : IVec S512x1 32 := broadcastInDim S512x1 ![] bcast_S_S512x1 main_c_0
  let main_v3 : IVec S512x1 1 := cmpi .slt main_arg2 main_v2
  let main_v4 : IVec S512x1 1 := andi main_v1 main_v3
  let main_c_1 : IVec S_ 1 := constantI S_ 1 1#1
  let main_v5 : IVec S_ 1 := (fun x v => Host.reduce IntOp.andi x v reducesTo_S512x1_S_d0_1 h_S_) main_v4 main_c_1
  main_v5
-- ==== Pre_routes_in_range_ReferenceIdeal.lean ====
abbrev S512x256 : Shape := ⟨2, ![512, 256]⟩
abbrev S256x128 : Shape := ⟨2, ![256, 128]⟩
abbrev S512x1 : Shape := ⟨2, ![512, 1]⟩
abbrev S128x256x512 : Shape := ⟨3, ![128, 256, 512]⟩
abbrev S_ : Shape := ⟨0, ![]⟩

class Facts : Prop where
  bcast_S_S512x1 : S_.BroadcastsInDim S512x1 (![] : Fin 0 → Fin S512x1.rank)
  reducesTo_S512x1_S_d0_1 : S512x1.ReducesTo [0, 1] S_
  h_S_ : 0 < S_.numel

variable [Facts]

def fn {F : FTy → Type} [FloatOps F] (main_arg0 : FVec F S512x256 .bf16) (main_arg1 : FVec F S256x128 .bf16) (main_arg2 : IVec S512x1 32) (main_arg3 : FVec F S128x256x512 .bf16) : IVec S_ 1 :=
  let main_c : IVec S_ 32 := constantI S_ 32 0#32
  let main_v0 : IVec S512x1 32 := broadcastInDim S512x1 ![] bcast_S_S512x1 main_c
  let main_v1 : IVec S512x1 1 := cmpi .sge main_arg2 main_v0
  let main_c_0 : IVec S_ 32 := constantI S_ 32 128#32
  let main_v2 : IVec S512x1 32 := broadcastInDim S512x1 ![] bcast_S_S512x1 main_c_0
  let main_v3 : IVec S512x1 1 := cmpi .slt main_arg2 main_v2
  let main_v4 : IVec S512x1 1 := andi main_v1 main_v3
  let main_c_1 : IVec S_ 1 := constantI S_ 1 1#1
  let main_v5 : IVec S_ 1 := (fun x v => Host.reduce IntOp.andi x v reducesTo_S512x1_S_d0_1 h_S_) main_v4 main_c_1
  main_v5
-- ==== Kernel.lean ====
abbrev S512x256 : Shape := ⟨2, ![512, 256]⟩
abbrev S256x128 : Shape := ⟨2, ![256, 128]⟩
abbrev S512x1 : Shape := ⟨2, ![512, 1]⟩
abbrev S4x256x512 : Shape := ⟨3, ![4, 256, 512]⟩
abbrev S512x512 : Shape := ⟨2, ![512, 512]⟩
abbrev S31 : Shape := ⟨1, ![31]⟩
abbrev S_ : Shape := ⟨0, ![]⟩
abbrev S512x128 : Shape := ⟨2, ![512, 128]⟩
abbrev S512 : Shape := ⟨1, ![512]⟩
abbrev S512x16 : Shape := ⟨2, ![512, 16]⟩
abbrev S16x256 : Shape := ⟨2, ![16, 256]⟩
abbrev S16x1 : Shape := ⟨2, ![16, 1]⟩
abbrev S16x512 : Shape := ⟨2, ![16, 512]⟩
abbrev S1x256x512 : Shape := ⟨3, ![1, 256, 512]⟩
abbrev S256x512 : Shape := ⟨2, ![256, 512]⟩
abbrev S1 : Shape := ⟨1, ![1]⟩

abbrev nBuf : Space → Nat
  | .hbm => 5
  | .vmem => 5
  | .smem => 0
  | _ => 0

abbrev bufTy : (tb : Table) → Fin (tcTables nBuf tb) → BufTy
  | .hbm, ⟨0, _⟩ => ⟨S512x256, .bf16⟩
  | .hbm, ⟨1, _⟩ => ⟨S256x128, .bf16⟩
  | .hbm, ⟨2, _⟩ => ⟨S512x1, .i32⟩
  | .hbm, ⟨3, _⟩ => ⟨S4x256x512, .bf16⟩
  | .hbm, ⟨4, _⟩ => ⟨S512x512, .f32⟩
  | .local _ .vmem, ⟨0, _⟩ => ⟨S512x256, .bf16⟩
  | .local _ .vmem, ⟨1, _⟩ => ⟨S512x1, .i32⟩
  | .local _ .vmem, ⟨2, _⟩ => ⟨S4x256x512, .bf16⟩
  | .local _ .vmem, ⟨3, _⟩ => ⟨S512x512, .f32⟩
  | .local _ .vmem, ⟨4, _⟩ => ⟨S512x512, .bf16⟩
  | _, _ => ⟨S512x256, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 1 → Bool
  | ⟨0, _⟩ => false
  | _ => false

abbrev dmaSemScoped : Fin 66 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | ⟨44, _⟩ => true
  | ⟨45, _⟩ => true
  | ⟨46, _⟩ => true
  | ⟨47, _⟩ => true
  | ⟨48, _⟩ => true
  | ⟨49, _⟩ => true
  | ⟨50, _⟩ => true
  | ⟨51, _⟩ => true
  | ⟨52, _⟩ => true
  | ⟨53, _⟩ => true
  | ⟨54, _⟩ => true
  | ⟨55, _⟩ => true
  | ⟨56, _⟩ => true
  | ⟨57, _⟩ => true
  | ⟨58, _⟩ => true
  | ⟨59, _⟩ => true
  | ⟨60, _⟩ => true
  | ⟨61, _⟩ => true
  | ⟨62, _⟩ => true
  | ⟨63, _⟩ => true
  | ⟨64, _⟩ => true
  | ⟨65, _⟩ => true
  | _ => false

abbrev sig : RefSig :=
  (ofTc nBuf bufTy 1 66 bufScoped semScoped dmaSemScoped tileCredit tileCredit_eq_zero tileCredit_pos).withBarriers [(0, 0)]

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v1 : Ref sig .tc := ⟨.hbm, 4, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_scratch0 : Ref sig .tc := ⟨.vmem, 4, rfl⟩
abbrev cc0_sem0_0 : DmaSem sig := 0
abbrev cc0_sem1_0 : DmaSem sig := 1
abbrev cc0_sem2_0 : DmaSem sig := 2
abbrev cc0_sem3_0 : DmaSem sig := 3
abbrev barrier0 : Sem sig := 0

abbrev nD : Nat := 32
abbrev τ : Topo := Topo.v7x

variable {F : FTy → Type} [FloatOps F]

abbrev grid0 : Pipeline.Grid := .none

def k0_dev1 (d0 : Dev nD) : Nat :=
  let c0_i32 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_0 : BitVec 32 := 1#32
  let v4 : BitVec 32 := Scalar.addi v2 c1_i32_0
  let c32_i32_1 : BitVec 32 := 32#32
  let v5 : BitVec 32 := Scalar.remsi v4 c32_i32_1
  let c1_i32_3 : BitVec 32 := 1#32
  let v6 : BitVec 32 := Scalar.muli v5 c1_i32_3
  let v7 : BitVec 32 := Scalar.addi c0_i32 v6
  v7.toNat
def k0_dev2 (d0 : Dev nD) : Nat :=
  let c0_i32_7 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c2_i32 : BitVec 32 := 2#32
  let v8 : BitVec 32 := Scalar.addi v2 c2_i32
  let c32_i32_4 : BitVec 32 := 32#32
  let v9 : BitVec 32 := Scalar.remsi v8 c32_i32_4
  let c1_i32_6 : BitVec 32 := 1#32
  let v10 : BitVec 32 := Scalar.muli v9 c1_i32_6
  let v11 : BitVec 32 := Scalar.addi c0_i32_7 v10
  v11.toNat
def k0_dev3 (d0 : Dev nD) : Nat :=
  let c0_i32_11 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c3_i32 : BitVec 32 := 3#32
  let v12 : BitVec 32 := Scalar.addi v2 c3_i32
  let c32_i32_8 : BitVec 32 := 32#32
  let v13 : BitVec 32 := Scalar.remsi v12 c32_i32_8
  let c1_i32_10 : BitVec 32 := 1#32
  let v14 : BitVec 32 := Scalar.muli v13 c1_i32_10
  let v15 : BitVec 32 := Scalar.addi c0_i32_11 v14
  v15.toNat
def k0_dev4 (d0 : Dev nD) : Nat :=
  let c0_i32_15 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c4_i32 : BitVec 32 := 4#32
  let v16 : BitVec 32 := Scalar.addi v2 c4_i32
  let c32_i32_12 : BitVec 32 := 32#32
  let v17 : BitVec 32 := Scalar.remsi v16 c32_i32_12
  let c1_i32_14 : BitVec 32 := 1#32
  let v18 : BitVec 32 := Scalar.muli v17 c1_i32_14
  let v19 : BitVec 32 := Scalar.addi c0_i32_15 v18
  v19.toNat
def k0_dev5 (d0 : Dev nD) : Nat :=
  let c0_i32_19 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c5_i32 : BitVec 32 := 5#32
  let v20 : BitVec 32 := Scalar.addi v2 c5_i32
  let c32_i32_16 : BitVec 32 := 32#32
  let v21 : BitVec 32 := Scalar.remsi v20 c32_i32_16
  let c1_i32_18 : BitVec 32 := 1#32
  let v22 : BitVec 32 := Scalar.muli v21 c1_i32_18
  let v23 : BitVec 32 := Scalar.addi c0_i32_19 v22
  v23.toNat
def k0_dev6 (d0 : Dev nD) : Nat :=
  let c0_i32_23 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c6_i32 : BitVec 32 := 6#32
  let v24 : BitVec 32 := Scalar.addi v2 c6_i32
  let c32_i32_20 : BitVec 32 := 32#32
  let v25 : BitVec 32 := Scalar.remsi v24 c32_i32_20
  let c1_i32_22 : BitVec 32 := 1#32
  let v26 : BitVec 32 := Scalar.muli v25 c1_i32_22
  let v27 : BitVec 32 := Scalar.addi c0_i32_23 v26
  v27.toNat
def k0_dev7 (d0 : Dev nD) : Nat :=
  let c0_i32_27 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c7_i32 : BitVec 32 := 7#32
  let v28 : BitVec 32 := Scalar.addi v2 c7_i32
  let c32_i32_24 : BitVec 32 := 32#32
  let v29 : BitVec 32 := Scalar.remsi v28 c32_i32_24
  let c1_i32_26 : BitVec 32 := 1#32
  let v30 : BitVec 32 := Scalar.muli v29 c1_i32_26
  let v31 : BitVec 32 := Scalar.addi c0_i32_27 v30
  v31.toNat
def k0_dev8 (d0 : Dev nD) : Nat :=
  let c0_i32_31 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32 : BitVec 32 := 8#32
  let v32 : BitVec 32 := Scalar.addi v2 c8_i32
  let c32_i32_28 : BitVec 32 := 32#32
  let v33 : BitVec 32 := Scalar.remsi v32 c32_i32_28
  let c1_i32_30 : BitVec 32 := 1#32
  let v34 : BitVec 32 := Scalar.muli v33 c1_i32_30
  let v35 : BitVec 32 := Scalar.addi c0_i32_31 v34
  v35.toNat
def k0_dev9 (d0 : Dev nD) : Nat :=
  let c0_i32_35 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c9_i32 : BitVec 32 := 9#32
  let v36 : BitVec 32 := Scalar.addi v2 c9_i32
  let c32_i32_32 : BitVec 32 := 32#32
  let v37 : BitVec 32 := Scalar.remsi v36 c32_i32_32
  let c1_i32_34 : BitVec 32 := 1#32
  let v38 : BitVec 32 := Scalar.muli v37 c1_i32_34
  let v39 : BitVec 32 := Scalar.addi c0_i32_35 v38
  v39.toNat
def k0_dev10 (d0 : Dev nD) : Nat :=
  let c0_i32_39 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c10_i32 : BitVec 32 := 10#32
  let v40 : BitVec 32 := Scalar.addi v2 c10_i32
  let c32_i32_36 : BitVec 32 := 32#32
  let v41 : BitVec 32 := Scalar.remsi v40 c32_i32_36
  let c1_i32_38 : BitVec 32 := 1#32
  let v42 : BitVec 32 := Scalar.muli v41 c1_i32_38
  let v43 : BitVec 32 := Scalar.addi c0_i32_39 v42
  v43.toNat
def k0_dev11 (d0 : Dev nD) : Nat :=
  let c0_i32_43 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c11_i32 : BitVec 32 := 11#32
  let v44 : BitVec 32 := Scalar.addi v2 c11_i32
  let c32_i32_40 : BitVec 32 := 32#32
  let v45 : BitVec 32 := Scalar.remsi v44 c32_i32_40
  let c1_i32_42 : BitVec 32 := 1#32
  let v46 : BitVec 32 := Scalar.muli v45 c1_i32_42
  let v47 : BitVec 32 := Scalar.addi c0_i32_43 v46
  v47.toNat
def k0_dev12 (d0 : Dev nD) : Nat :=
  let c0_i32_47 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c12_i32 : BitVec 32 := 12#32
  let v48 : BitVec 32 := Scalar.addi v2 c12_i32
  let c32_i32_44 : BitVec 32 := 32#32
  let v49 : BitVec 32 := Scalar.remsi v48 c32_i32_44
  let c1_i32_46 : BitVec 32 := 1#32
  let v50 : BitVec 32 := Scalar.muli v49 c1_i32_46
  let v51 : BitVec 32 := Scalar.addi c0_i32_47 v50
  v51.toNat
def k0_dev13 (d0 : Dev nD) : Nat :=
  let c0_i32_51 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c13_i32 : BitVec 32 := 13#32
  let v52 : BitVec 32 := Scalar.addi v2 c13_i32
  let c32_i32_48 : BitVec 32 := 32#32
  let v53 : BitVec 32 := Scalar.remsi v52 c32_i32_48
  let c1_i32_50 : BitVec 32 := 1#32
  let v54 : BitVec 32 := Scalar.muli v53 c1_i32_50
  let v55 : BitVec 32 := Scalar.addi c0_i32_51 v54
  v55.toNat
def k0_dev14 (d0 : Dev nD) : Nat :=
  let c0_i32_55 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c14_i32 : BitVec 32 := 14#32
  let v56 : BitVec 32 := Scalar.addi v2 c14_i32
  let c32_i32_52 : BitVec 32 := 32#32
  let v57 : BitVec 32 := Scalar.remsi v56 c32_i32_52
  let c1_i32_54 : BitVec 32 := 1#32
  let v58 : BitVec 32 := Scalar.muli v57 c1_i32_54
  let v59 : BitVec 32 := Scalar.addi c0_i32_55 v58
  v59.toNat
def k0_dev15 (d0 : Dev nD) : Nat :=
  let c0_i32_59 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c15_i32 : BitVec 32 := 15#32
  let v60 : BitVec 32 := Scalar.addi v2 c15_i32
  let c32_i32_56 : BitVec 32 := 32#32
  let v61 : BitVec 32 := Scalar.remsi v60 c32_i32_56
  let c1_i32_58 : BitVec 32 := 1#32
  let v62 : BitVec 32 := Scalar.muli v61 c1_i32_58
  let v63 : BitVec 32 := Scalar.addi c0_i32_59 v62
  v63.toNat
def k0_dev16 (d0 : Dev nD) : Nat :=
  let c0_i32_63 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c16_i32 : BitVec 32 := 16#32
  let v64 : BitVec 32 := Scalar.addi v2 c16_i32
  let c32_i32_60 : BitVec 32 := 32#32
  let v65 : BitVec 32 := Scalar.remsi v64 c32_i32_60
  let c1_i32_62 : BitVec 32 := 1#32
  let v66 : BitVec 32 := Scalar.muli v65 c1_i32_62
  let v67 : BitVec 32 := Scalar.addi c0_i32_63 v66
  v67.toNat
def k0_dev17 (d0 : Dev nD) : Nat :=
  let c0_i32_67 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c17_i32 : BitVec 32 := 17#32
  let v68 : BitVec 32 := Scalar.addi v2 c17_i32
  let c32_i32_64 : BitVec 32 := 32#32
  let v69 : BitVec 32 := Scalar.remsi v68 c32_i32_64
  let c1_i32_66 : BitVec 32 := 1#32
  let v70 : BitVec 32 := Scalar.muli v69 c1_i32_66
  let v71 : BitVec 32 := Scalar.addi c0_i32_67 v70
  v71.toNat
def k0_dev18 (d0 : Dev nD) : Nat :=
  let c0_i32_71 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c18_i32 : BitVec 32 := 18#32
  let v72 : BitVec 32 := Scalar.addi v2 c18_i32
  let c32_i32_68 : BitVec 32 := 32#32
  let v73 : BitVec 32 := Scalar.remsi v72 c32_i32_68
  let c1_i32_70 : BitVec 32 := 1#32
  let v74 : BitVec 32 := Scalar.muli v73 c1_i32_70
  let v75 : BitVec 32 := Scalar.addi c0_i32_71 v74
  v75.toNat
def k0_dev19 (d0 : Dev nD) : Nat :=
  let c0_i32_75 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c19_i32 : BitVec 32 := 19#32
  let v76 : BitVec 32 := Scalar.addi v2 c19_i32
  let c32_i32_72 : BitVec 32 := 32#32
  let v77 : BitVec 32 := Scalar.remsi v76 c32_i32_72
  let c1_i32_74 : BitVec 32 := 1#32
  let v78 : BitVec 32 := Scalar.muli v77 c1_i32_74
  let v79 : BitVec 32 := Scalar.addi c0_i32_75 v78
  v79.toNat
def k0_dev20 (d0 : Dev nD) : Nat :=
  let c0_i32_79 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c20_i32 : BitVec 32 := 20#32
  let v80 : BitVec 32 := Scalar.addi v2 c20_i32
  let c32_i32_76 : BitVec 32 := 32#32
  let v81 : BitVec 32 := Scalar.remsi v80 c32_i32_76
  let c1_i32_78 : BitVec 32 := 1#32
  let v82 : BitVec 32 := Scalar.muli v81 c1_i32_78
  let v83 : BitVec 32 := Scalar.addi c0_i32_79 v82
  v83.toNat
def k0_dev21 (d0 : Dev nD) : Nat :=
  let c0_i32_83 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c21_i32 : BitVec 32 := 21#32
  let v84 : BitVec 32 := Scalar.addi v2 c21_i32
  let c32_i32_80 : BitVec 32 := 32#32
  let v85 : BitVec 32 := Scalar.remsi v84 c32_i32_80
  let c1_i32_82 : BitVec 32 := 1#32
  let v86 : BitVec 32 := Scalar.muli v85 c1_i32_82
  let v87 : BitVec 32 := Scalar.addi c0_i32_83 v86
  v87.toNat
def k0_dev22 (d0 : Dev nD) : Nat :=
  let c0_i32_87 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c22_i32 : BitVec 32 := 22#32
  let v88 : BitVec 32 := Scalar.addi v2 c22_i32
  let c32_i32_84 : BitVec 32 := 32#32
  let v89 : BitVec 32 := Scalar.remsi v88 c32_i32_84
  let c1_i32_86 : BitVec 32 := 1#32
  let v90 : BitVec 32 := Scalar.muli v89 c1_i32_86
  let v91 : BitVec 32 := Scalar.addi c0_i32_87 v90
  v91.toNat
def k0_dev23 (d0 : Dev nD) : Nat :=
  let c0_i32_91 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c23_i32 : BitVec 32 := 23#32
  let v92 : BitVec 32 := Scalar.addi v2 c23_i32
  let c32_i32_88 : BitVec 32 := 32#32
  let v93 : BitVec 32 := Scalar.remsi v92 c32_i32_88
  let c1_i32_90 : BitVec 32 := 1#32
  let v94 : BitVec 32 := Scalar.muli v93 c1_i32_90
  let v95 : BitVec 32 := Scalar.addi c0_i32_91 v94
  v95.toNat
def k0_dev24 (d0 : Dev nD) : Nat :=
  let c0_i32_95 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c24_i32 : BitVec 32 := 24#32
  let v96 : BitVec 32 := Scalar.addi v2 c24_i32
  let c32_i32_92 : BitVec 32 := 32#32
  let v97 : BitVec 32 := Scalar.remsi v96 c32_i32_92
  let c1_i32_94 : BitVec 32 := 1#32
  let v98 : BitVec 32 := Scalar.muli v97 c1_i32_94
  let v99 : BitVec 32 := Scalar.addi c0_i32_95 v98
  v99.toNat
def k0_dev25 (d0 : Dev nD) : Nat :=
  let c0_i32_99 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c25_i32 : BitVec 32 := 25#32
  let v100 : BitVec 32 := Scalar.addi v2 c25_i32
  let c32_i32_96 : BitVec 32 := 32#32
  let v101 : BitVec 32 := Scalar.remsi v100 c32_i32_96
  let c1_i32_98 : BitVec 32 := 1#32
  let v102 : BitVec 32 := Scalar.muli v101 c1_i32_98
  let v103 : BitVec 32 := Scalar.addi c0_i32_99 v102
  v103.toNat
def k0_dev26 (d0 : Dev nD) : Nat :=
  let c0_i32_103 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c26_i32 : BitVec 32 := 26#32
  let v104 : BitVec 32 := Scalar.addi v2 c26_i32
  let c32_i32_100 : BitVec 32 := 32#32
  let v105 : BitVec 32 := Scalar.remsi v104 c32_i32_100
  let c1_i32_102 : BitVec 32 := 1#32
  let v106 : BitVec 32 := Scalar.muli v105 c1_i32_102
  let v107 : BitVec 32 := Scalar.addi c0_i32_103 v106
  v107.toNat
def k0_dev27 (d0 : Dev nD) : Nat :=
  let c0_i32_107 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c27_i32 : BitVec 32 := 27#32
  let v108 : BitVec 32 := Scalar.addi v2 c27_i32
  let c32_i32_104 : BitVec 32 := 32#32
  let v109 : BitVec 32 := Scalar.remsi v108 c32_i32_104
  let c1_i32_106 : BitVec 32 := 1#32
  let v110 : BitVec 32 := Scalar.muli v109 c1_i32_106
  let v111 : BitVec 32 := Scalar.addi c0_i32_107 v110
  v111.toNat
def k0_dev28 (d0 : Dev nD) : Nat :=
  let c0_i32_111 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c28_i32 : BitVec 32 := 28#32
  let v112 : BitVec 32 := Scalar.addi v2 c28_i32
  let c32_i32_108 : BitVec 32 := 32#32
  let v113 : BitVec 32 := Scalar.remsi v112 c32_i32_108
  let c1_i32_110 : BitVec 32 := 1#32
  let v114 : BitVec 32 := Scalar.muli v113 c1_i32_110
  let v115 : BitVec 32 := Scalar.addi c0_i32_111 v114
  v115.toNat
def k0_dev29 (d0 : Dev nD) : Nat :=
  let c0_i32_115 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c29_i32 : BitVec 32 := 29#32
  let v116 : BitVec 32 := Scalar.addi v2 c29_i32
  let c32_i32_112 : BitVec 32 := 32#32
  let v117 : BitVec 32 := Scalar.remsi v116 c32_i32_112
  let c1_i32_114 : BitVec 32 := 1#32
  let v118 : BitVec 32 := Scalar.muli v117 c1_i32_114
  let v119 : BitVec 32 := Scalar.addi c0_i32_115 v118
  v119.toNat
def k0_dev30 (d0 : Dev nD) : Nat :=
  let c0_i32_119 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c30_i32 : BitVec 32 := 30#32
  let v120 : BitVec 32 := Scalar.addi v2 c30_i32
  let c32_i32_116 : BitVec 32 := 32#32
  let v121 : BitVec 32 := Scalar.remsi v120 c32_i32_116
  let c1_i32_118 : BitVec 32 := 1#32
  let v122 : BitVec 32 := Scalar.muli v121 c1_i32_118
  let v123 : BitVec 32 := Scalar.addi c0_i32_119 v122
  v123.toNat
def k0_dev31 (d0 : Dev nD) : Nat :=
  let c0_i32_123 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c31_i32 : BitVec 32 := 31#32
  let v124 : BitVec 32 := Scalar.addi v2 c31_i32
  let c32_i32_120 : BitVec 32 := 32#32
  let v125 : BitVec 32 := Scalar.remsi v124 c32_i32_120
  let c1_i32_122 : BitVec 32 := 1#32
  let v126 : BitVec 32 := Scalar.muli v125 c1_i32_122
  let v127 : BitVec 32 := Scalar.addi c0_i32_123 v126
  v127.toNat
def k0_off1 (d0 : Dev nD) : Fin 2 → Nat :=
  let c16_i32_169 : BitVec 32 := 16#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let v270 : BitVec 32 := Scalar.muli c16_i32_169 v2
  let v271 : Index := Scalar.indexCast v270
  let c0_170 : Index := 0#32
  ![v271.toNat, 0]
def k0_off2 (d0 : Dev nD) : Fin 2 → Nat :=
  let c16_i32_175 : BitVec 32 := 16#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let v286 : BitVec 32 := Scalar.muli c16_i32_175 v2
  let c0_i32_180 : BitVec 32 := 0#32
  ![v286.toNat, 0]
def k0_dev32 (d0 : Dev nD) : Nat :=
  let c0_i32_179 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_172 : BitVec 32 := 1#32
  let v283 : BitVec 32 := Scalar.addi v2 c1_i32_172
  let c32_i32_173 : BitVec 32 := 32#32
  let v284 : BitVec 32 := Scalar.remsi v283 c32_i32_173
  let c1_i32_178 : BitVec 32 := 1#32
  let v287 : BitVec 32 := Scalar.muli v284 c1_i32_178
  let v288 : BitVec 32 := Scalar.addi c0_i32_179 v287
  v288.toNat
def k0_dev33 (d0 : Dev nD) : Nat :=
  let c0_i32_189 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c2_i32_182 : BitVec 32 := 2#32
  let v295 : BitVec 32 := Scalar.addi v2 c2_i32_182
  let c32_i32_183 : BitVec 32 := 32#32
  let v296 : BitVec 32 := Scalar.remsi v295 c32_i32_183
  let c1_i32_188 : BitVec 32 := 1#32
  let v299 : BitVec 32 := Scalar.muli v296 c1_i32_188
  let v300 : BitVec 32 := Scalar.addi c0_i32_189 v299
  v300.toNat
def k0_dev34 (d0 : Dev nD) : Nat :=
  let c0_i32_199 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c3_i32_192 : BitVec 32 := 3#32
  let v307 : BitVec 32 := Scalar.addi v2 c3_i32_192
  let c32_i32_193 : BitVec 32 := 32#32
  let v308 : BitVec 32 := Scalar.remsi v307 c32_i32_193
  let c1_i32_198 : BitVec 32 := 1#32
  let v311 : BitVec 32 := Scalar.muli v308 c1_i32_198
  let v312 : BitVec 32 := Scalar.addi c0_i32_199 v311
  v312.toNat
def k0_dev35 (d0 : Dev nD) : Nat :=
  let c0_i32_209 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c4_i32_202 : BitVec 32 := 4#32
  let v319 : BitVec 32 := Scalar.addi v2 c4_i32_202
  let c32_i32_203 : BitVec 32 := 32#32
  let v320 : BitVec 32 := Scalar.remsi v319 c32_i32_203
  let c1_i32_208 : BitVec 32 := 1#32
  let v323 : BitVec 32 := Scalar.muli v320 c1_i32_208
  let v324 : BitVec 32 := Scalar.addi c0_i32_209 v323
  v324.toNat
def k0_dev36 (d0 : Dev nD) : Nat :=
  let c0_i32_219 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c5_i32_212 : BitVec 32 := 5#32
  let v331 : BitVec 32 := Scalar.addi v2 c5_i32_212
  let c32_i32_213 : BitVec 32 := 32#32
  let v332 : BitVec 32 := Scalar.remsi v331 c32_i32_213
  let c1_i32_218 : BitVec 32 := 1#32
  let v335 : BitVec 32 := Scalar.muli v332 c1_i32_218
  let v336 : BitVec 32 := Scalar.addi c0_i32_219 v335
  v336.toNat
def k0_dev37 (d0 : Dev nD) : Nat :=
  let c0_i32_229 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c6_i32_222 : BitVec 32 := 6#32
  let v343 : BitVec 32 := Scalar.addi v2 c6_i32_222
  let c32_i32_223 : BitVec 32 := 32#32
  let v344 : BitVec 32 := Scalar.remsi v343 c32_i32_223
  let c1_i32_228 : BitVec 32 := 1#32
  let v347 : BitVec 32 := Scalar.muli v344 c1_i32_228
  let v348 : BitVec 32 := Scalar.addi c0_i32_229 v347
  v348.toNat
def k0_dev38 (d0 : Dev nD) : Nat :=
  let c0_i32_239 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c7_i32_232 : BitVec 32 := 7#32
  let v355 : BitVec 32 := Scalar.addi v2 c7_i32_232
  let c32_i32_233 : BitVec 32 := 32#32
  let v356 : BitVec 32 := Scalar.remsi v355 c32_i32_233
  let c1_i32_238 : BitVec 32 := 1#32
  let v359 : BitVec 32 := Scalar.muli v356 c1_i32_238
  let v360 : BitVec 32 := Scalar.addi c0_i32_239 v359
  v360.toNat
def k0_dev39 (d0 : Dev nD) : Nat :=
  let c0_i32_249 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_242 : BitVec 32 := 8#32
  let v367 : BitVec 32 := Scalar.addi v2 c8_i32_242
  let c32_i32_243 : BitVec 32 := 32#32
  let v368 : BitVec 32 := Scalar.remsi v367 c32_i32_243
  let c1_i32_248 : BitVec 32 := 1#32
  let v371 : BitVec 32 := Scalar.muli v368 c1_i32_248
  let v372 : BitVec 32 := Scalar.addi c0_i32_249 v371
  v372.toNat
def k0_dev40 (d0 : Dev nD) : Nat :=
  let c0_i32_259 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c9_i32_252 : BitVec 32 := 9#32
  let v379 : BitVec 32 := Scalar.addi v2 c9_i32_252
  let c32_i32_253 : BitVec 32 := 32#32
  let v380 : BitVec 32 := Scalar.remsi v379 c32_i32_253
  let c1_i32_258 : BitVec 32 := 1#32
  let v383 : BitVec 32 := Scalar.muli v380 c1_i32_258
  let v384 : BitVec 32 := Scalar.addi c0_i32_259 v383
  v384.toNat
def k0_dev41 (d0 : Dev nD) : Nat :=
  let c0_i32_269 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c10_i32_262 : BitVec 32 := 10#32
  let v391 : BitVec 32 := Scalar.addi v2 c10_i32_262
  let c32_i32_263 : BitVec 32 := 32#32
  let v392 : BitVec 32 := Scalar.remsi v391 c32_i32_263
  let c1_i32_268 : BitVec 32 := 1#32
  let v395 : BitVec 32 := Scalar.muli v392 c1_i32_268
  let v396 : BitVec 32 := Scalar.addi c0_i32_269 v395
  v396.toNat
def k0_dev42 (d0 : Dev nD) : Nat :=
  let c0_i32_279 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c11_i32_272 : BitVec 32 := 11#32
  let v403 : BitVec 32 := Scalar.addi v2 c11_i32_272
  let c32_i32_273 : BitVec 32 := 32#32
  let v404 : BitVec 32 := Scalar.remsi v403 c32_i32_273
  let c1_i32_278 : BitVec 32 := 1#32
  let v407 : BitVec 32 := Scalar.muli v404 c1_i32_278
  let v408 : BitVec 32 := Scalar.addi c0_i32_279 v407
  v408.toNat
def k0_dev43 (d0 : Dev nD) : Nat :=
  let c0_i32_289 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c12_i32_282 : BitVec 32 := 12#32
  let v415 : BitVec 32 := Scalar.addi v2 c12_i32_282
  let c32_i32_283 : BitVec 32 := 32#32
  let v416 : BitVec 32 := Scalar.remsi v415 c32_i32_283
  let c1_i32_288 : BitVec 32 := 1#32
  let v419 : BitVec 32 := Scalar.muli v416 c1_i32_288
  let v420 : BitVec 32 := Scalar.addi c0_i32_289 v419
  v420.toNat
def k0_dev44 (d0 : Dev nD) : Nat :=
  let c0_i32_299 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c13_i32_292 : BitVec 32 := 13#32
  let v427 : BitVec 32 := Scalar.addi v2 c13_i32_292
  let c32_i32_293 : BitVec 32 := 32#32
  let v428 : BitVec 32 := Scalar.remsi v427 c32_i32_293
  let c1_i32_298 : BitVec 32 := 1#32
  let v431 : BitVec 32 := Scalar.muli v428 c1_i32_298
  let v432 : BitVec 32 := Scalar.addi c0_i32_299 v431
  v432.toNat
def k0_dev45 (d0 : Dev nD) : Nat :=
  let c0_i32_309 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c14_i32_302 : BitVec 32 := 14#32
  let v439 : BitVec 32 := Scalar.addi v2 c14_i32_302
  let c32_i32_303 : BitVec 32 := 32#32
  let v440 : BitVec 32 := Scalar.remsi v439 c32_i32_303
  let c1_i32_308 : BitVec 32 := 1#32
  let v443 : BitVec 32 := Scalar.muli v440 c1_i32_308
  let v444 : BitVec 32 := Scalar.addi c0_i32_309 v443
  v444.toNat
def k0_dev46 (d0 : Dev nD) : Nat :=
  let c0_i32_319 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c15_i32_312 : BitVec 32 := 15#32
  let v451 : BitVec 32 := Scalar.addi v2 c15_i32_312
  let c32_i32_313 : BitVec 32 := 32#32
  let v452 : BitVec 32 := Scalar.remsi v451 c32_i32_313
  let c1_i32_318 : BitVec 32 := 1#32
  let v455 : BitVec 32 := Scalar.muli v452 c1_i32_318
  let v456 : BitVec 32 := Scalar.addi c0_i32_319 v455
  v456.toNat
def k0_dev47 (d0 : Dev nD) : Nat :=
  let c0_i32_329 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c16_i32_322 : BitVec 32 := 16#32
  let v463 : BitVec 32 := Scalar.addi v2 c16_i32_322
  let c32_i32_323 : BitVec 32 := 32#32
  let v464 : BitVec 32 := Scalar.remsi v463 c32_i32_323
  let c1_i32_328 : BitVec 32 := 1#32
  let v467 : BitVec 32 := Scalar.muli v464 c1_i32_328
  let v468 : BitVec 32 := Scalar.addi c0_i32_329 v467
  v468.toNat
def k0_dev48 (d0 : Dev nD) : Nat :=
  let c0_i32_339 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c17_i32_332 : BitVec 32 := 17#32
  let v475 : BitVec 32 := Scalar.addi v2 c17_i32_332
  let c32_i32_333 : BitVec 32 := 32#32
  let v476 : BitVec 32 := Scalar.remsi v475 c32_i32_333
  let c1_i32_338 : BitVec 32 := 1#32
  let v479 : BitVec 32 := Scalar.muli v476 c1_i32_338
  let v480 : BitVec 32 := Scalar.addi c0_i32_339 v479
  v480.toNat
def k0_dev49 (d0 : Dev nD) : Nat :=
  let c0_i32_349 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c18_i32_342 : BitVec 32 := 18#32
  let v487 : BitVec 32 := Scalar.addi v2 c18_i32_342
  let c32_i32_343 : BitVec 32 := 32#32
  let v488 : BitVec 32 := Scalar.remsi v487 c32_i32_343
  let c1_i32_348 : BitVec 32 := 1#32
  let v491 : BitVec 32 := Scalar.muli v488 c1_i32_348
  let v492 : BitVec 32 := Scalar.addi c0_i32_349 v491
  v492.toNat
def k0_dev50 (d0 : Dev nD) : Nat :=
  let c0_i32_359 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c19_i32_352 : BitVec 32 := 19#32
  let v499 : BitVec 32 := Scalar.addi v2 c19_i32_352
  let c32_i32_353 : BitVec 32 := 32#32
  let v500 : BitVec 32 := Scalar.remsi v499 c32_i32_353
  let c1_i32_358 : BitVec 32 := 1#32
  let v503 : BitVec 32 := Scalar.muli v500 c1_i32_358
  let v504 : BitVec 32 := Scalar.addi c0_i32_359 v503
  v504.toNat
def k0_dev51 (d0 : Dev nD) : Nat :=
  let c0_i32_369 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c20_i32_362 : BitVec 32 := 20#32
  let v511 : BitVec 32 := Scalar.addi v2 c20_i32_362
  let c32_i32_363 : BitVec 32 := 32#32
  let v512 : BitVec 32 := Scalar.remsi v511 c32_i32_363
  let c1_i32_368 : BitVec 32 := 1#32
  let v515 : BitVec 32 := Scalar.muli v512 c1_i32_368
  let v516 : BitVec 32 := Scalar.addi c0_i32_369 v515
  v516.toNat
def k0_dev52 (d0 : Dev nD) : Nat :=
  let c0_i32_379 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c21_i32_372 : BitVec 32 := 21#32
  let v523 : BitVec 32 := Scalar.addi v2 c21_i32_372
  let c32_i32_373 : BitVec 32 := 32#32
  let v524 : BitVec 32 := Scalar.remsi v523 c32_i32_373
  let c1_i32_378 : BitVec 32 := 1#32
  let v527 : BitVec 32 := Scalar.muli v524 c1_i32_378
  let v528 : BitVec 32 := Scalar.addi c0_i32_379 v527
  v528.toNat
def k0_dev53 (d0 : Dev nD) : Nat :=
  let c0_i32_389 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c22_i32_382 : BitVec 32 := 22#32
  let v535 : BitVec 32 := Scalar.addi v2 c22_i32_382
  let c32_i32_383 : BitVec 32 := 32#32
  let v536 : BitVec 32 := Scalar.remsi v535 c32_i32_383
  let c1_i32_388 : BitVec 32 := 1#32
  let v539 : BitVec 32 := Scalar.muli v536 c1_i32_388
  let v540 : BitVec 32 := Scalar.addi c0_i32_389 v539
  v540.toNat
def k0_dev54 (d0 : Dev nD) : Nat :=
  let c0_i32_399 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c23_i32_392 : BitVec 32 := 23#32
  let v547 : BitVec 32 := Scalar.addi v2 c23_i32_392
  let c32_i32_393 : BitVec 32 := 32#32
  let v548 : BitVec 32 := Scalar.remsi v547 c32_i32_393
  let c1_i32_398 : BitVec 32 := 1#32
  let v551 : BitVec 32 := Scalar.muli v548 c1_i32_398
  let v552 : BitVec 32 := Scalar.addi c0_i32_399 v551
  v552.toNat
def k0_dev55 (d0 : Dev nD) : Nat :=
  let c0_i32_409 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c24_i32_402 : BitVec 32 := 24#32
  let v559 : BitVec 32 := Scalar.addi v2 c24_i32_402
  let c32_i32_403 : BitVec 32 := 32#32
  let v560 : BitVec 32 := Scalar.remsi v559 c32_i32_403
  let c1_i32_408 : BitVec 32 := 1#32
  let v563 : BitVec 32 := Scalar.muli v560 c1_i32_408
  let v564 : BitVec 32 := Scalar.addi c0_i32_409 v563
  v564.toNat
def k0_dev56 (d0 : Dev nD) : Nat :=
  let c0_i32_419 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c25_i32_412 : BitVec 32 := 25#32
  let v571 : BitVec 32 := Scalar.addi v2 c25_i32_412
  let c32_i32_413 : BitVec 32 := 32#32
  let v572 : BitVec 32 := Scalar.remsi v571 c32_i32_413
  let c1_i32_418 : BitVec 32 := 1#32
  let v575 : BitVec 32 := Scalar.muli v572 c1_i32_418
  let v576 : BitVec 32 := Scalar.addi c0_i32_419 v575
  v576.toNat
def k0_dev57 (d0 : Dev nD) : Nat :=
  let c0_i32_429 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c26_i32_422 : BitVec 32 := 26#32
  let v583 : BitVec 32 := Scalar.addi v2 c26_i32_422
  let c32_i32_423 : BitVec 32 := 32#32
  let v584 : BitVec 32 := Scalar.remsi v583 c32_i32_423
  let c1_i32_428 : BitVec 32 := 1#32
  let v587 : BitVec 32 := Scalar.muli v584 c1_i32_428
  let v588 : BitVec 32 := Scalar.addi c0_i32_429 v587
  v588.toNat
def k0_dev58 (d0 : Dev nD) : Nat :=
  let c0_i32_439 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c27_i32_432 : BitVec 32 := 27#32
  let v595 : BitVec 32 := Scalar.addi v2 c27_i32_432
  let c32_i32_433 : BitVec 32 := 32#32
  let v596 : BitVec 32 := Scalar.remsi v595 c32_i32_433
  let c1_i32_438 : BitVec 32 := 1#32
  let v599 : BitVec 32 := Scalar.muli v596 c1_i32_438
  let v600 : BitVec 32 := Scalar.addi c0_i32_439 v599
  v600.toNat
def k0_dev59 (d0 : Dev nD) : Nat :=
  let c0_i32_449 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c28_i32_442 : BitVec 32 := 28#32
  let v607 : BitVec 32 := Scalar.addi v2 c28_i32_442
  let c32_i32_443 : BitVec 32 := 32#32
  let v608 : BitVec 32 := Scalar.remsi v607 c32_i32_443
  let c1_i32_448 : BitVec 32 := 1#32
  let v611 : BitVec 32 := Scalar.muli v608 c1_i32_448
  let v612 : BitVec 32 := Scalar.addi c0_i32_449 v611
  v612.toNat
def k0_dev60 (d0 : Dev nD) : Nat :=
  let c0_i32_459 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c29_i32_452 : BitVec 32 := 29#32
  let v619 : BitVec 32 := Scalar.addi v2 c29_i32_452
  let c32_i32_453 : BitVec 32 := 32#32
  let v620 : BitVec 32 := Scalar.remsi v619 c32_i32_453
  let c1_i32_458 : BitVec 32 := 1#32
  let v623 : BitVec 32 := Scalar.muli v620 c1_i32_458
  let v624 : BitVec 32 := Scalar.addi c0_i32_459 v623
  v624.toNat
def k0_dev61 (d0 : Dev nD) : Nat :=
  let c0_i32_469 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c30_i32_462 : BitVec 32 := 30#32
  let v631 : BitVec 32 := Scalar.addi v2 c30_i32_462
  let c32_i32_463 : BitVec 32 := 32#32
  let v632 : BitVec 32 := Scalar.remsi v631 c32_i32_463
  let c1_i32_468 : BitVec 32 := 1#32
  let v635 : BitVec 32 := Scalar.muli v632 c1_i32_468
  let v636 : BitVec 32 := Scalar.addi c0_i32_469 v635
  v636.toNat
def k0_dev62 (d0 : Dev nD) : Nat :=
  let c0_i32_479 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c31_i32_472 : BitVec 32 := 31#32
  let v643 : BitVec 32 := Scalar.addi v2 c31_i32_472
  let c32_i32_473 : BitVec 32 := 32#32
  let v644 : BitVec 32 := Scalar.remsi v643 c32_i32_473
  let c1_i32_478 : BitVec 32 := 1#32
  let v647 : BitVec 32 := Scalar.muli v644 c1_i32_478
  let v648 : BitVec 32 := Scalar.addi c0_i32_479 v647
  v648.toNat
abbrev stage0_0 : Fin 1 → Memref sig .tc .vmem S512x256 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S512x1 .i32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S4x256x512 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S512x512 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
-- ==== ReferenceIdeal.lean ====
abbrev S512x256 : Shape := ⟨2, ![512, 256]⟩
abbrev S256x128 : Shape := ⟨2, ![256, 128]⟩
abbrev S512x1 : Shape := ⟨2, ![512, 1]⟩
abbrev S128x256x512 : Shape := ⟨3, ![128, 256, 512]⟩
abbrev S512 : Shape := ⟨1, ![512]⟩
abbrev S_ : Shape := ⟨0, ![]⟩
abbrev S128 : Shape := ⟨1, ![128]⟩
abbrev S1 : Shape := ⟨1, ![1]⟩
abbrev S512x256x512 : Shape := ⟨3, ![512, 256, 512]⟩
abbrev S512x512 : Shape := ⟨2, ![512, 512]⟩

abbrev nBuf : Space → Nat
  | .hbm => 57
  | .vmem => 0
  | .smem => 0
  | _ => 0

abbrev bufTy : (tb : Table) → Fin (tcTables nBuf tb) → BufTy
  | .hbm, ⟨0, _⟩ => ⟨S512x256, .bf16⟩
  | .hbm, ⟨1, _⟩ => ⟨S256x128, .bf16⟩
  | .hbm, ⟨2, _⟩ => ⟨S512x1, .i32⟩
  | .hbm, ⟨3, _⟩ => ⟨S128x256x512, .bf16⟩
  | .hbm, ⟨4, _⟩ => ⟨S512, .i32⟩
  | .hbm, ⟨5, _⟩ => ⟨S_, .i32⟩
  | .hbm, ⟨6, _⟩ => ⟨S128, .i32⟩
  | .hbm, ⟨7, _⟩ => ⟨S_, .i1⟩
  | .hbm, ⟨8, _⟩ => ⟨S512, .i1⟩
  | .hbm, ⟨9, _⟩ => ⟨S_, .i32⟩
  | .hbm, ⟨10, _⟩ => ⟨S512, .i32⟩
  | .hbm, ⟨11, _⟩ => ⟨S_, .i32⟩
  | .hbm, ⟨12, _⟩ => ⟨S128, .i32⟩
  | .hbm, ⟨13, _⟩ => ⟨S512, .i1⟩
  | .hbm, ⟨14, _⟩ => ⟨S_, .i32⟩
  | .hbm, ⟨15, _⟩ => ⟨S_, .i1⟩
  | .hbm, ⟨16, _⟩ => ⟨S1, .i32⟩
  | .hbm, ⟨17, _⟩ => ⟨S_, .i32⟩
  | .hbm, ⟨18, _⟩ => ⟨S_, .i32⟩
  | .hbm, ⟨19, _⟩ => ⟨S_, .i1⟩
  | .hbm, ⟨20, _⟩ => ⟨S_, .i32⟩
  | .hbm, ⟨21, _⟩ => ⟨S_, .i32⟩
  | .hbm, ⟨22, _⟩ => ⟨S_, .i32⟩
  | .hbm, ⟨23, _⟩ => ⟨S1, .i32⟩
  | .hbm, ⟨24, _⟩ => ⟨S_, .i32⟩
  | .hbm, ⟨25, _⟩ => ⟨S_, .i32⟩
  | .hbm, ⟨26, _⟩ => ⟨S_, .i1⟩
  | .hbm, ⟨27, _⟩ => ⟨S_, .i32⟩
  | .hbm, ⟨28, _⟩ => ⟨S_, .i32⟩
  | .hbm, ⟨29, _⟩ => ⟨S_, .i1⟩
  | .hbm, ⟨30, _⟩ => ⟨S_, .i32⟩
  | .hbm, ⟨31, _⟩ => ⟨S_, .i32⟩
  | .hbm, ⟨32, _⟩ => ⟨S_, .i32⟩
  | .hbm, ⟨33, _⟩ => ⟨S1, .i32⟩
  | .hbm, ⟨34, _⟩ => ⟨S128, .i32⟩
  | .hbm, ⟨35, _⟩ => ⟨S1, .i1⟩
  | .hbm, ⟨36, _⟩ => ⟨S512, .i1⟩
  | .hbm, ⟨37, _⟩ => ⟨S_, .i32⟩
  | .hbm, ⟨38, _⟩ => ⟨S_, .i32⟩
  | .hbm, ⟨39, _⟩ => ⟨S512x256, .f32⟩
  | .hbm, ⟨40, _⟩ => ⟨S_, .i32⟩
  | .hbm, ⟨41, _⟩ => ⟨S512, .i32⟩
  | .hbm, ⟨42, _⟩ => ⟨S512, .i1⟩
  | .hbm, ⟨43, _⟩ => ⟨S_, .i32⟩
  | .hbm, ⟨44, _⟩ => ⟨S512, .i32⟩
  | .hbm, ⟨45, _⟩ => ⟨S512, .i32⟩
  | .hbm, ⟨46, _⟩ => ⟨S512, .i32⟩
  | .hbm, ⟨47, _⟩ => ⟨S512x1, .i32⟩
  | .hbm, ⟨48, _⟩ => ⟨S512x256x512, .bf16⟩
  | .hbm, ⟨49, _⟩ => ⟨S512x256x512, .f32⟩
  | .hbm, ⟨50, _⟩ => ⟨S512x512, .f32⟩
  | .hbm, ⟨51, _⟩ => ⟨S512x1, .i1⟩
  | .hbm, ⟨52, _⟩ => ⟨S_, .f32⟩
  | .hbm, ⟨53, _⟩ => ⟨S_, .f32⟩
  | .hbm, ⟨54, _⟩ => ⟨S512x512, .i1⟩
  | .hbm, ⟨55, _⟩ => ⟨S512x512, .f32⟩
  | .hbm, ⟨56, _⟩ => ⟨S512x512, .f32⟩
  | _, _ => ⟨S512x256, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_c : Ref sig .tc := ⟨.hbm, 5, rfl⟩
abbrev main_v1 : Ref sig .tc := ⟨.hbm, 6, rfl⟩
abbrev main_c_0 : Ref sig .tc := ⟨.hbm, 7, rfl⟩
abbrev main_v2 : Ref sig .tc := ⟨.hbm, 8, rfl⟩
abbrev main_c_1 : Ref sig .tc := ⟨.hbm, 9, rfl⟩
abbrev main_v3_0 : Ref sig .tc := ⟨.hbm, 10, rfl⟩
abbrev main_v3_1 : Ref sig .tc := ⟨.hbm, 11, rfl⟩
abbrev main_v3_2 : Ref sig .tc := ⟨.hbm, 12, rfl⟩
abbrev main_v3_3 : Ref sig .tc := ⟨.hbm, 13, rfl⟩
abbrev main_while0c_c_7 : Ref sig .tc := ⟨.hbm, 14, rfl⟩
abbrev main_while0c_v16 : Ref sig .tc := ⟨.hbm, 15, rfl⟩
abbrev main_while0b_call0_v0 : Ref sig .tc := ⟨.hbm, 16, rfl⟩
abbrev main_while0b_v16 : Ref sig .tc := ⟨.hbm, 17, rfl⟩
abbrev main_while0b_c_7 : Ref sig .tc := ⟨.hbm, 18, rfl⟩
abbrev main_while0b_v17 : Ref sig .tc := ⟨.hbm, 19, rfl⟩
abbrev main_while0b_c_8 : Ref sig .tc := ⟨.hbm, 20, rfl⟩
abbrev main_while0b_v18 : Ref sig .tc := ⟨.hbm, 21, rfl⟩
abbrev main_while0b_v19 : Ref sig .tc := ⟨.hbm, 22, rfl⟩
abbrev main_while0b_v20 : Ref sig .tc := ⟨.hbm, 23, rfl⟩
abbrev main_while0b_v21 : Ref sig .tc := ⟨.hbm, 24, rfl⟩
abbrev main_while0b_c_9 : Ref sig .tc := ⟨.hbm, 25, rfl⟩
abbrev main_while0b_v22 : Ref sig .tc := ⟨.hbm, 26, rfl⟩
abbrev main_while0b_v23 : Ref sig .tc := ⟨.hbm, 27, rfl⟩
abbrev main_while0b_c_10 : Ref sig .tc := ⟨.hbm, 28, rfl⟩
abbrev main_while0b_v24 : Ref sig .tc := ⟨.hbm, 29, rfl⟩
abbrev main_while0b_c_11 : Ref sig .tc := ⟨.hbm, 30, rfl⟩
abbrev main_while0b_v25 : Ref sig .tc := ⟨.hbm, 31, rfl⟩
abbrev main_while0b_v26 : Ref sig .tc := ⟨.hbm, 32, rfl⟩
abbrev main_while0b_v27 : Ref sig .tc := ⟨.hbm, 33, rfl⟩
abbrev main_while0b_v28 : Ref sig .tc := ⟨.hbm, 34, rfl⟩
abbrev main_while0b_call1_v0 : Ref sig .tc := ⟨.hbm, 35, rfl⟩
abbrev main_while0b_v29 : Ref sig .tc := ⟨.hbm, 36, rfl⟩
abbrev main_while0b_c_12 : Ref sig .tc := ⟨.hbm, 37, rfl⟩
abbrev main_while0b_v30 : Ref sig .tc := ⟨.hbm, 38, rfl⟩
abbrev main_v4 : Ref sig .tc := ⟨.hbm, 39, rfl⟩
abbrev main_c_2 : Ref sig .tc := ⟨.hbm, 40, rfl⟩
abbrev main_v5 : Ref sig .tc := ⟨.hbm, 41, rfl⟩
abbrev main_v6 : Ref sig .tc := ⟨.hbm, 42, rfl⟩
abbrev main_c_3 : Ref sig .tc := ⟨.hbm, 43, rfl⟩
abbrev main_v7 : Ref sig .tc := ⟨.hbm, 44, rfl⟩
abbrev main_v8 : Ref sig .tc := ⟨.hbm, 45, rfl⟩
abbrev main_v9 : Ref sig .tc := ⟨.hbm, 46, rfl⟩
abbrev main_v10 : Ref sig .tc := ⟨.hbm, 47, rfl⟩
abbrev main_v11 : Ref sig .tc := ⟨.hbm, 48, rfl⟩
abbrev main_v12 : Ref sig .tc := ⟨.hbm, 49, rfl⟩
abbrev main_v13 : Ref sig .tc := ⟨.hbm, 50, rfl⟩
abbrev main_v14 : Ref sig .tc := ⟨.hbm, 51, rfl⟩
abbrev main_cst : Ref sig .tc := ⟨.hbm, 52, rfl⟩
abbrev main_call2_v0 : Ref sig .tc := ⟨.hbm, 53, rfl⟩
abbrev main_call2_v1 : Ref sig .tc := ⟨.hbm, 54, rfl⟩
abbrev main_call2_v2 : Ref sig .tc := ⟨.hbm, 55, rfl⟩
abbrev main_v15 : Ref sig .tc := ⟨.hbm, 56, rfl⟩

abbrev nD : Nat := 1
abbrev τ : Topo := Topo.v7x

variable {F : FTy → Type} [FloatOps F]

abbrev main_while0_count : Scf.Loop 32 := ⟨0#32, 512#32, 1#32⟩
-- ==== Proof.Common.lean ====
/-
# The exchange among the 32 devices: cells, contents, schedule and levels

Every device signals the barrier semaphore of its 31 peers, waits for 31 on its own, sends its 16 rows of the
gathered buffer to every peer, and waits for its own sends and for the rows of the others. The peers are numbered by
the step `k` of the exchange (`k < 31`): step `k` of device `c` addresses device `c + k + 1` around the mesh.
-/
module

public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import Idealize.ShloMosaic.Lib.Pipeline.Launch
public import Idealize.ShloMosaic.Lib.Pipeline.Kit
public import Idealize.ShloMosaic.Lib.Ring
public import Idealize.ShloMosaic.Lib.Transfers
public import Idealize.ShloMosaic.Lib.ValueIdx
public import Idealize.ShloMosaic.Lib.ViewIndex
public import Idealize.ShloMosaic.Lib.Tactic

@[expose] public section

noncomputable section

namespace Cert.MoE

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

/-! ## The resource algebra: the pipeline library's copy and the exchange's, whose duties are named by numbers -/

/-- The exchange's rounds, a copy of the rounds' algebra over the semaphore cells. -/
abbrev UB : Type := URounds (GSem nD τ sig) ℕ
/-- The whole algebra: the pipeline library's copy beside the exchange's. -/
abbrev UU : Type := UR sig nD τ × UB

local notation "𝕄" => MT nD τ sig Unit (Elt F) ℕ UU ℕ

/-- Where the pipeline library's copy sits in it; -/
abbrev EP : Emb (UR sig nD τ) (MT nD τ sig Unit (Elt F) ℕ UU ℕ) := embL
/-- and where the exchange's sits. -/
abbrev ER : Emb UB (MT nD τ sig Unit (Elt F) ℕ UU ℕ) := embR

variable (m : (ℓ : Loc nD τ sig) → Buf (Elt F) ℓ) (ρ : Dev nD → PrngReg)

/-- The memory at launch: arbitrary contents, every semaphore counter zero, arbitrary generator registers. -/
def s₀ : MemSt nD τ sig (Elt F) := ⟨m, fun _ => 0, ρ⟩

/-! ## The peers -/

set_option backward.proofsInPublic true in
/-- The device that step `k` of device `c` addresses. -/
def peer (c : Dev nD) (k : ℕ) : Dev nD := ⟨(c.val + (k + 1)) % 32, Nat.mod_lt _ (by decide)⟩
set_option backward.proofsInPublic true in
/-- The device whose step `k` addresses device `c` (for `k < 31`). -/
def back (c : Dev nD) (k : ℕ) : Dev nD := ⟨(c.val + (31 - k)) % 32, Nat.mod_lt _ (by decide)⟩

/-- The device that step `k` of device `c` addresses is addressed by `c`; -/
theorem back_peer (c : Dev nD) {k : ℕ} (hk : k < 31) : back (peer c k) k = c := by
  apply Fin.ext; have := c.isLt; simp only [back, peer]; have : nD = 32 := rfl; omega
/-- and the device whose step `k` addresses `c` addresses it. -/
theorem peer_back (c : Dev nD) {k : ℕ} (hk : k < 31) : peer (back c k) k = c := by
  apply Fin.ext; have := c.isLt; simp only [back, peer]; have : nD = 32 := rfl; omega

/-- Step `k` as a permutation of the devices. -/
def rot (k : ℕ) (hk : k < 31) : Dev nD ≃ Dev nD := ⟨fun c => peer c k, fun c => back c k, fun c => back_peer c hk, fun c => peer_back c hk⟩

/-- A device's 31 steps address different devices. -/
theorem peer_inj (c : Dev nD) : Set.InjOn (peer c) (Finset.Ico 0 31 : Finset ℕ) := by
  intro a ha b hb h
  have h' := congrArg Fin.val h
  simp only [peer] at h'
  have ha' := (Finset.mem_Ico.mp (Finset.mem_coe.mp ha)).2; have hb' := (Finset.mem_Ico.mp (Finset.mem_coe.mp hb)).2
  have := c.isLt; have : nD = 32 := rfl
  omega
/-- The devices whose steps address `c` differ from step to step. -/
theorem back_inj (c : Dev nD) : Set.InjOn (back c) (Finset.Ico 0 31 : Finset ℕ) := by
  intro a ha b hb h
  have h' := congrArg Fin.val h
  simp only [back] at h'
  have ha' := (Finset.mem_Ico.mp (Finset.mem_coe.mp ha)).2; have hb' := (Finset.mem_Ico.mp (Finset.mem_coe.mp hb)).2
  have := c.isLt; have : nD = 32 := rfl
  omega
/-- No step addresses the device itself, -/
theorem peer_ne (c : Dev nD) {k : ℕ} (hk : k < 31) : peer c k ≠ c := by
  intro h; have h' := congrArg Fin.val h; simp only [peer] at h'; have := c.isLt; have : nD = 32 := rfl; omega
/-- and no device's own step addresses it. -/
theorem back_ne (c : Dev nD) {k : ℕ} (hk : k < 31) : back c k ≠ c := by
  intro h; have h' := congrArg Fin.val h; simp only [back] at h'; have := c.isLt; have : nD = 32 := rfl; omega

/-- All devices: `c` itself and those its steps address; -/
theorem univ_peer (c : Dev nD) : (Finset.univ : Finset (Dev nD)) = insert c ((Finset.Ico 0 31).image (peer c)) := by
  symm; rw [Finset.eq_univ_iff_forall]; intro d
  rw [Finset.mem_insert, Finset.mem_image]
  by_cases h : d = c
  · exact .inl h
  · refine .inr ⟨(d.val + 31 - c.val) % 32, ?_, ?_⟩
    · have := c.isLt; have := d.isLt; have : nD = 32 := rfl; have hv : d.val ≠ c.val := fun e => h (Fin.ext e)
      rw [Finset.mem_Ico]; omega
    · apply Fin.ext; simp only [peer]; have := c.isLt; have := d.isLt; have : nD = 32 := rfl; omega
/-- or `c` itself and those whose steps address it. -/
theorem univ_back (c : Dev nD) : (Finset.univ : Finset (Dev nD)) = insert c ((Finset.Ico 0 31).image (back c)) := by
  symm; rw [Finset.eq_univ_iff_forall]; intro d
  rw [Finset.mem_insert, Finset.mem_image]
  by_cases h : d = c
  · exact .inl h
  · refine .inr ⟨(c.val + 31 - d.val) % 32, ?_, ?_⟩
    · have := c.isLt; have := d.isLt; have : nD = 32 := rfl; have hv : d.val ≠ c.val := fun e => h (Fin.ext e)
      rw [Finset.mem_Ico]; omega
    · apply Fin.ext; simp only [back]; have := c.isLt; have := d.isLt; have : nD = 32 := rfl; omega

omit [FloatOps F] in
theorem bigSep_image' {I J : Type} [DecidableEq I] [DecidableEq J] {s : Finset I} {f : I → J} (hf : Set.InjOn f s) (Φ : J → sProp 𝕄) :
    bigSep (s.image f) Φ = bigSep s (fun i => Φ (f i)) := by
  induction s using Finset.induction_on with
  | empty => rw [Finset.image_empty, bigSep_empty, bigSep_empty]
  | insert a s ha ih =>
    have hn : f a ∉ s.image f := fun h => by
      obtain ⟨b, hb, e⟩ := Finset.mem_image.mp h
      exact ha ((hf (Finset.mem_coe.mpr (Finset.mem_insert_of_mem hb)) (Finset.mem_coe.mpr (Finset.mem_insert_self _ _)) e) ▸ hb)
    rw [Finset.image_insert, bigSep_insert hn, bigSep_insert ha, ih fun x hx y hy e => hf (Finset.mem_coe.mpr (Finset.mem_insert_of_mem hx)) (Finset.mem_coe.mpr (Finset.mem_insert_of_mem hy)) e]

omit [FloatOps F] in
/-- A family over the devices is `c`'s member and the members of the devices `c`'s steps address; -/
theorem bigSep_dev_peer (c : Dev nD) (Φ : Dev nD → sProp 𝕄) : bigSep Finset.univ Φ = iprop(Φ c ∗ bigSep (Finset.Ico 0 31) fun k => Φ (peer c k)) := by
  rw [univ_peer c, bigSep_insert, bigSep_image' (peer_inj c)]
  · rfl
  · intro h; obtain ⟨k, hk, e⟩ := Finset.mem_image.mp h; exact peer_ne c (Finset.mem_Ico.mp hk).2 e
omit [FloatOps F] in
/-- or `c`'s member and the members of the devices whose steps address `c`. -/
theorem bigSep_dev_back (c : Dev nD) (Φ : Dev nD → sProp 𝕄) : bigSep Finset.univ Φ = iprop(Φ c ∗ bigSep (Finset.Ico 0 31) fun k => Φ (back c k)) := by
  rw [univ_back c, bigSep_insert, bigSep_image' (back_inj c)]
  · rfl
  · intro h; obtain ⟨k, hk, e⟩ := Finset.mem_image.mp h; exact back_ne c (Finset.mem_Ico.mp hk).2 e

/-! ## The memrefs and cells -/

/-- The staging buffer of the tokens; -/
abbrev xM : Memref sig .tc .vmem S512x256 .bf16 := Memref.whole cc0_stg0_0
/-- of the routes; -/
abbrev rM : Memref sig .tc .vmem S512x1 .i32 := Memref.whole cc0_stg1_0
/-- of the four experts; -/
abbrev wM : Memref sig .tc .vmem S4x256x512 .bf16 := Memref.whole cc0_stg2_0
/-- of the result. -/
abbrev oM : Memref sig .tc .vmem S512x512 .f32 := Memref.whole cc0_stg3_0
/-- The gathered buffer; -/
abbrev gM : Memref sig .tc .vmem S512x512 .bf16 := Memref.whole cc0_scratch0
/-- the 16 rows of it that hold device `b`'s block. -/
abbrev blk (b : Dev nD) : Memref sig .tc .vmem S16x512 .bf16 :=
  gM.slice (Rect.unit (s := S512x512) (k0_off2 b) S16x512.size (k0_off2_inb b)) (fun _ => rfl)

/-- The barrier's semaphore. -/
abbrev barS : Sem sig := (SemArray.scalar (sig.barrier 0 rfl) : Sems sig S_).sem
/-- The DMA semaphore step `k`'s send completes on, and the one its rows arrive on. -/
def sendS (k : ℕ) : DmaSem sig := Fin.ofNat 66 (4 + k)
/-- The semaphore on which step `k`'s rows arrive. -/
def recvS (k : ℕ) : DmaSem sig := Fin.ofNat 66 (35 + k)

/-- The send semaphores are numbered from 4, -/
theorem sendS_val {k : ℕ} (hk : k < 31) : (sendS k).val = 4 + k := by
  show (4 + k) % 66 = 4 + k; omega
/-- the receive semaphores from 35. -/
theorem recvS_val {k : ℕ} (hk : k < 31) : (recvS k).val = 35 + k := by
  show (35 + k) % 66 = 35 + k; omega

/-- The barrier's cell of device `c`; -/
abbrev barCell (c : Dev nD) : GSem nD τ sig := ((c : Thread nD τ), .reg barS)
/-- its cell on which step `k`'s send completes; -/
abbrev sendCell (c : Dev nD) (k : ℕ) : GSem nD τ sig := ((c : Thread nD τ), .dma (sendS k))
/-- its cell on which step `k`'s rows arrive. -/
abbrev recvCell (c : Dev nD) (k : ℕ) : GSem nD τ sig := ((c : Thread nD τ), .dma (recvS k))

/-- What one copy of a device's rows credits. -/
abbrev N : ℕ := (blk 0).view.dmaCredit
/-- It is positive. -/
theorem N_pos : 0 < N := View.dmaCredit_pos _ (by decide)

/-! ## Contents -/

/-- What device `c`'s three input blocks hold on its staging buffers: the tokens, the routes, its four experts. -/
def xstg (c : Dev nD) : (cc0_stg0_0 : Ref sig .tc).ty.Contents (Elt F) :=
  (win0_0.blk (0 : Fin 1)).view.read (Elt F) ((s₀ m ρ).mem ((c : Thread nD τ).loc main_arg0))
/-- The routes that device `c` is given; -/
def rstg (c : Dev nD) : (cc0_stg1_0 : Ref sig .tc).ty.Contents (Elt F) :=
  (win0_1.blk (0 : Fin 1)).view.read (Elt F) ((s₀ m ρ).mem ((c : Thread nD τ).loc main_arg2))
/-- the four experts that device `c` is given. -/
def wstg (c : Dev nD) : (cc0_stg2_0 : Ref sig .tc).ty.Contents (Elt F) :=
  (win0_2.blk (0 : Fin 1)).view.read (Elt F) ((s₀ m ρ).mem ((c : Thread nD τ).loc main_arg3))

/-- The device's number as the kernel computes it. -/
def myWord (c : Dev nD) : BitVec 32 := Scalar.remsi (Scalar.divsi (Dev.word c) 1#32) 32#32

/-- Expert `e` of the device's four, read off the staging buffer. -/
def wExp (w : (cc0_stg2_0 : Ref sig .tc).ty.Contents (Elt F)) (o : Fin 3 → ℕ) (h : ∀ a, o a + S1x256x512.size a ≤ S4x256x512.size a) : Vec F S1x256x512 .bf16 :=
  wM.view.readAt (Elt F) (Rect.unit (s := S4x256x512) o S1x256x512.size h).toLoadRect w

/-- The slot numbers of the tokens, the kernel's `col`, from the routes; -/
def colOf (r : Vec F S512x1 .i32) : IVec S512x1 32 :=
  k0_pay8 (k0_pay2 r) (k0_pay5 r) 4#32 (k0_pay6 r) (k0_pay7 r) (Scalar.extui (Scalar.cmpi .sgt 4#32 0#32))
/-- the selection of the tokens that device `my` gathers into its 16 slots; -/
def pmyOf (my : BitVec 32) (r : Vec F S512x1 .i32) : FVec F S512x16 .bf16 :=
  k0_pay9 (F := F) my (k0_pay2 r) (k0_pay4 r) (k0_pay5 r) 4#32 (k0_pay6 r) (k0_pay7 r) (Scalar.extui (Scalar.cmpi .sgt 4#32 0#32))
/-- the 16 rows that device `my` computes from the tokens, the routes and its four experts; -/
def rowsOf (my : BitVec 32) (x : Vec F S512x256 .bf16) (r : Vec F S512x1 .i32) (w : (cc0_stg2_0 : Ref sig .tc).ty.Contents (Elt F)) : FVec F S16x512 .bf16 :=
  k0_pay13 (k0_pay10 (pmyOf my r) x) (iota .tc S16x1 32 [0] iota_S16x1_d0_w32)
    (k0_pay11 (pmyOf my r) x (wExp w ![0, 0, 0] inb_S4x256x512_S1x256x512_0_0_0) (wExp w ![1, 0, 0] inb_S4x256x512_S1x256x512_1_0_0))
    (k0_pay12 (pmyOf my r) x)
    (wExp w ![2, 0, 0] inb_S4x256x512_S1x256x512_2_0_0) (wExp w ![3, 0, 0] inb_S4x256x512_S1x256x512_3_0_0)
/-- and the selection that scatters the gathered rows back to the tokens. -/
def pfullOf (r : Vec F S512x1 .i32) : FVec F S512x512 .bf16 := k0_pay14 (F := F) (k0_pay4 r) (colOf r)

/-- Device `c`'s 16 rows. -/
def rowsAt (c : Dev nD) : FVec F S16x512 .bf16 := rowsOf (myWord c) (xstg m ρ c) (rstg m ρ c) (wstg m ρ c)

set_option backward.proofsInPublic true in
/-- The gathered buffer once every device's rows are in: row `16 b + a` is row `a` of device `b`'s. -/
def gFull : (cc0_scratch0 : Ref sig .tc).ty.Contents (Elt F) := fun i =>
  rowsAt m ρ ⟨(i 0).val / 16, by have h : (i 0).val < 512 := (i 0).isLt; have : nD = 32 := rfl; omega⟩
    (ValueIdx.ix2 (⟨(i 0).val % 16, Nat.mod_lt _ (by decide)⟩ : Fin 16) ((i 1 : Fin 512)))

/-- The rows' offsets, in closed form. -/
theorem off2_0 (b : Dev nD) : k0_off2 b 0 = 16 * b.val := by rw [k0_off2_eq]; rfl
/-- A device's rows start at column 0. -/
theorem off2_1 (b : Dev nD) : k0_off2 b 1 = 0 := by rw [k0_off2_eq]; rfl

/-- Row `a` of device `b`'s rows is row `16 b + a` of the gathered buffer, -/
theorem blk_emb_0 (b : Dev nD) (x : S16x512.Idx) : ((blk b).view.emb x 0).val = 16 * b.val + (x 0).val := by
  show k0_off2 b 0 + 1 * (x 0).val = _
  rw [off2_0]; omega
/-- and a column is the same column. -/
theorem blk_emb_1 (b : Dev nD) (x : S16x512.Idx) : ((blk b).view.emb x 1).val = (x 1).val := by
  show k0_off2 b 1 + 1 * (x 1).val = _
  rw [off2_1]; omega

/-- The gathered buffer read at device `b`'s rows is what `b` computed. -/
theorem gFull_emb (b : Dev nD) (x : S16x512.Idx) : gFull m ρ ((blk b).view.emb x) = rowsAt m ρ b x := by
  have hx : (x 0).val < 16 := (x 0).isLt
  have h0 := blk_emb_0 b x
  have h1 := blk_emb_1 b x
  unfold gFull
  have hb : (⟨((blk b).view.emb x 0).val / 16, by have h : ((blk b).view.emb x 0).val < 512 := ((blk b).view.emb x 0).isLt; have : nD = 32 := rfl; omega⟩ : Dev nD) = b := by
    apply Fin.ext; show ((blk b).view.emb x 0).val / 16 = b.val; omega
  have hi : (ValueIdx.ix2 (⟨((blk b).view.emb x 0).val % 16, Nat.mod_lt _ (by decide)⟩ : Fin 16) (((blk b).view.emb x 1 : Fin 512))) = x := by
    funext a
    match a with
    | ⟨0, _⟩ => exact Fin.ext (by show ((blk b).view.emb x 0).val % 16 = (x 0).val; omega)
    | ⟨1, _⟩ => exact Fin.ext h1
  exact congrArg₂ (fun d y => rowsAt m ρ d y) hb hi

/-- Rows of the block at device `b`'s position, on device `p`. -/
def gPts (p b : Dev nD) (q : PosShare TreeShare) (f : (cc0_scratch0 : Ref sig .tc).ty.Contents (Elt F)) : sProp 𝕄 :=
  (blk b).view.loc (p : Thread nD τ) ↦[(blk b).view.set]{q} f

omit [FloatOps F] in
instance gPts_storable (p b : Dev nD) (q : PosShare TreeShare) (f) : BI.Storable (upEmb : UEmb _ 𝕄) (gPts (F := F) p b q f) := by
  unfold gPts; infer_instance

/-- The share of its own rows that step `k`'s send reads through. -/
abbrev tok (k : ℕ) : PosShare TreeShare := Transfers.shareTokN fullShare k

/-! ## The schedule -/

/-- What the cells hand over: a barrier's duty `k`, the rows of the block of the cell's device on the peer that pays it; a
    send's, the own rows back at the share lent; a receive's, the sender's rows as computed. -/
def pay (c : Dev nD) (s : SemLoc sig) (d : ℕ) : sProp 𝕄 :=
  match s with
  | .reg _ => iprop(∃ f, gPts (back c d) c fullShare f)
  | .dma s => if s.val < 35 then gPts c c (tok (s.val - 4)) (gFull m ρ) else gPts c (back c (s.val - 35)) fullShare (gFull m ρ)

instance pay_storable (c : Dev nD) (s : SemLoc sig) (d : ℕ) : BI.Storable (upEmb : UEmb _ 𝕄) (pay m ρ c s d) := by
  unfold pay; split
  · infer_instance
  · split <;> infer_instance

/-- One round, round 0: a barrier cell has 31 duties of one unit, a send or receive cell the duty `0` of the block's credit. -/
def ringRd : Rounds.Schedule (GSem nD τ sig) ℕ 𝕄 where
  duties g r := if r = 0 ∧ g.1.2 = .tc then (match g.2 with | .reg _ => Finset.Ico 0 31 | .dma s => if s.val < 4 then ∅ else {0}) else ∅
  unitless _ := False
  amount g _ _ := match g.2 with | .reg _ => 1 | .dma _ => N
  payload g _ d := pay m ρ g.1.1 g.2 d
  amount_pos g _ _ _ := by
    cases g.2
    · exact Nat.one_pos
    · exact N_pos

instance ringRd_payload_storable (g : GSem nD τ sig) (r : ℕ) (d : ℕ) :
    BI.Storable (upEmb : UEmb _ 𝕄) ((ringRd (F := F) m ρ).payload g r d) := pay_storable m ρ g.1.1 g.2 d

section Sched
variable (c : Dev nD)

/-- On a barrier's cell there is a duty for each of the 31 steps; -/
theorem duties_bar : (ringRd (F := F) m ρ).duties (barCell c) 0 = Finset.Ico 0 31 := by
  dsimp only [ringRd]; rw [if_pos ⟨rfl, rfl⟩]
/-- on a copy's cell there is one duty, -/
theorem duties_dma (s : DmaSem sig) (hs : 4 ≤ s.val) : (ringRd (F := F) m ρ).duties ((c : Thread nD τ), .dma s) 0 = {0} := by
  dsimp only [ringRd]; rw [if_pos ⟨rfl, rfl⟩]
  exact if_neg (Nat.not_lt.mpr hs)
/-- so on a send's cell, -/
theorem duties_send {k : ℕ} (hk : k < 31) : (ringRd (F := F) m ρ).duties (sendCell c k) 0 = {0} := duties_dma m ρ c _ (by rw [sendS_val hk]; omega)
/-- and on a receive's. -/
theorem duties_recv {k : ℕ} (hk : k < 31) : (ringRd (F := F) m ρ).duties (recvCell c k) 0 = {0} := duties_dma m ρ c _ (by rw [recvS_val hk]; omega)
/-- No cell has duties after its first round. -/
theorem duties_later (g : GSem nD τ sig) : ∀ r, 1 ≤ r → (ringRd (F := F) m ρ).duties g r = ∅ :=
  fun r hr => if_neg fun h => by omega

/-- A barrier's duty pays one unit, -/
theorem amount_bar (d : ℕ) : (ringRd (F := F) m ρ).amount (barCell c) 0 d = 1 := rfl
/-- a copy's duty pays the copy's credit. -/
theorem amount_dma (s : DmaSem sig) (d : ℕ) : (ringRd (F := F) m ρ).amount ((c : Thread nD τ), .dma s) 0 d = N := rfl

/-- A barrier's cell expects 31 units, -/
theorem expect_bar : (ringRd (F := F) m ρ).expect (barCell c) 0 = 31 := by
  unfold Schedule.expect Schedule.amountOf
  rw [duties_bar, Finset.sum_congr rfl fun d _ => amount_bar m ρ c d, Finset.sum_const, Nat.card_Ico, smul_eq_mul]
/-- a send's cell one copy's credit, -/
theorem expect_send {k : ℕ} (hk : k < 31) : (ringRd (F := F) m ρ).expect (sendCell c k) 0 = N := by
  unfold Schedule.expect Schedule.amountOf; rw [duties_send m ρ c hk, Finset.sum_singleton, amount_dma]
/-- and so a receive's cell. -/
theorem expect_recv {k : ℕ} (hk : k < 31) : (ringRd (F := F) m ρ).expect (recvCell c k) 0 = N := by
  unfold Schedule.expect Schedule.amountOf; rw [duties_recv m ρ c hk, Finset.sum_singleton, amount_dma]

/-- A signal hands over the signaller's buffer at the rows that this device will send it. -/
theorem payload_bar (d : ℕ) : (ringRd (F := F) m ρ).payload (barCell c) 0 d = iprop(∃ f, gPts (back c d) c fullShare f) := rfl
/-- A completed send hands back the share of the device's own rows that was lent to it. -/
theorem payload_send {k : ℕ} (hk : k < 31) (d : ℕ) : (ringRd (F := F) m ρ).payload (sendCell c k) 0 d = gPts c c (tok k) (gFull m ρ) := by
  show (if (sendS k).val < 35 then gPts c c (tok ((sendS k).val - 4)) (gFull m ρ) else _) = _
  rw [sendS_val hk, if_pos (by omega), Nat.add_sub_cancel_left]
/-- An arrival hands over the sender's rows, at their final contents. -/
theorem payload_recv {k : ℕ} (hk : k < 31) (d : ℕ) : (ringRd (F := F) m ρ).payload (recvCell c k) 0 d = gPts c (back c k) fullShare (gFull m ρ) := by
  show (if (recvS k).val < 35 then _ else gPts c (back c ((recvS k).val - 35)) fullShare (gFull m ρ)) = _
  rw [recvS_val hk, if_neg (by omega), Nat.add_sub_cancel_left]

/-- All that a barrier's wait collects; -/
theorem rest_bar : bigSep ((ringRd (F := F) m ρ).duties (barCell c) 0 \ ∅) (fun d => (ringRd (F := F) m ρ).payload (barCell c) 0 d)
    = bigSep (Finset.Ico 0 31) fun k => iprop(∃ f, gPts (F := F) (back c k) c fullShare f) := by
  rw [Finset.sdiff_empty, duties_bar]; rfl
/-- that a send's wait collects; -/
theorem rest_send {k : ℕ} (hk : k < 31) : bigSep ((ringRd (F := F) m ρ).duties (sendCell c k) 0 \ ∅) (fun d => (ringRd (F := F) m ρ).payload (sendCell c k) 0 d)
    = gPts c c (tok k) (gFull m ρ) := by
  rw [Finset.sdiff_empty, duties_send m ρ c hk, bigSep_singleton, payload_send m ρ c hk]
/-- that a receive's wait collects. -/
theorem rest_recv {k : ℕ} (hk : k < 31) : bigSep ((ringRd (F := F) m ρ).duties (recvCell c k) 0 \ ∅) (fun d => (ringRd (F := F) m ρ).payload (recvCell c k) 0 d)
    = gPts c (back c k) fullShare (gFull m ρ) := by
  rw [Finset.sdiff_empty, duties_recv m ρ c hk, bigSep_singleton, payload_recv m ρ c hk]

end Sched

/-! ## What each device owes; the levels -/

/-- The receive credits device `c` owes from step `n` on; -/
def OR (c : Dev nD) (n : ℕ) : CellTallies nD τ sig Unit := ∑ k ∈ Finset.Ico n 31, tallyAt (recvCell (peer c k) k) () N
/-- and with them the barrier units from step `n` on. -/
def OB (c : Dev nD) (n : ℕ) : CellTallies nD τ sig Unit := OR c 0 + ∑ k ∈ Finset.Ico n 31, tallyAt (barCell (peer c k)) () 1

/-- One send fewer to make takes one receive credit off what is owed; -/
theorem OR_succ (c : Dev nD) {n : ℕ} (hn : n < 31) : OR c n = OR c (n + 1) + tallyAt (recvCell (peer c n) n) () N := by
  unfold OR; rw [Finset.sum_eq_sum_Ico_succ_bot hn, add_comm]
/-- one signal fewer takes one barrier unit off. -/
theorem OB_succ (c : Dev nD) {n : ℕ} (hn : n < 31) : OB c n = OB c (n + 1) + tallyAt (barCell (peer c n)) () 1 := by
  unfold OB; rw [Finset.sum_eq_sum_Ico_succ_bot hn, add_assoc, add_comm (tallyAt _ _ _)]
/-- After the last send nothing is owed, -/
theorem OR_end (c : Dev nD) : OR c 31 = 0 := by unfold OR; rw [Finset.Ico_self, Finset.sum_empty]
/-- after the last signal only the receive credits. -/
theorem OB_end (c : Dev nD) : OB c 31 = OR c 0 := by unfold OB; rw [Finset.Ico_self, Finset.sum_empty, add_zero]

/-- What device `c` owes at the start. -/
def O₀ (c : Dev nD) : CellTallies nD τ sig Unit := OB c 0

/-- The tensor cores' cells have one level each, the others none. -/
def L (g : GSem nD τ sig) : Finset Unit := if g.1.2 = .tc then {()} else ∅
/-- Barrier cells at 1, receive cells at 2, everything else (staging, send) at 0. -/
def lv (g : GSem nD τ sig) (_ : Unit) : ℕ := match g.2 with | .reg _ => 1 | .dma s => if s.val < 35 then 0 else 2

/-- A cell of another core has none, -/
theorem L_of_ne (g : GSem nD τ sig) (h : g.1.2 ≠ .tc) : L g = ∅ := if_neg h
/-- and a tensor core's has its one. -/
theorem L_tc (c : Dev nD) (sm : SemLoc sig) : L ((c : Thread nD τ), sm) = {()} := if_pos rfl

/-- A receive cell is at level 2. -/
theorem lv_recv (c : Dev nD) {k : ℕ} (hk : k < 31) (u : Unit) : lv (recvCell c k) u = 2 := by
  show (if (recvS k).val < 35 then 0 else 2) = 2
  rw [recvS_val hk, if_neg (by omega)]

/-- A receive credit that is owed is owed to the device that some step addresses. -/
theorem OR_pos {c : Dev nD} {n : ℕ} {g : GSem nD τ sig} {u : Unit} (h : 0 < OR c n g u) : ∃ k < 31, g = recvCell (peer c k) k := by
  obtain ⟨k, hk, h'⟩ := Pipeline.sum_pos_exists h
  exact ⟨k, (Finset.mem_Ico.mp hk).2, (Pipeline.tallyAt_pos h').1⟩

/-- What is owed at the start is a receive credit or a barrier unit of a device that some step addresses. -/
theorem O₀_pos {c : Dev nD} {g : GSem nD τ sig} {u : Unit} (h : 0 < O₀ c g u) : (∃ k < 31, g = recvCell (peer c k) k) ∨ ∃ k < 31, g = barCell (peer c k) := by
  rcases Pipeline.add_pos_cases h with h | h
  · exact .inl (OR_pos h)
  · obtain ⟨k, hk, h'⟩ := Pipeline.sum_pos_exists h
    exact .inr ⟨k, (Finset.mem_Ico.mp hk).2, (Pipeline.tallyAt_pos h').1⟩

omit [FloatOps F] in
/-- A staging semaphore may be waited on whatever of the exchange is owed. -/
theorem mayWait_stage (c : Dev nD) (q : DmaSem sig) (hq : q.val < 35) (O : CellTallies nD τ sig Unit) (hO : O = O₀ c ∨ O = 0) :
    (levAts L lv : sProp 𝕄) ⊢ MayWait (c : Thread nD τ) (.dma q) () O := by
  rcases hO with rfl | rfl
  · refine MayOwe.of_cut (L := L) (lev := lv) 0 (fun p hp => by rw [Finset.mem_singleton.mp hp, L_tc]; exact Finset.mem_singleton_self _)
      (fun g u hg => by rcases O₀_pos hg with ⟨k, -, rfl⟩ | ⟨k, -, rfl⟩ <;> exact Finset.mem_singleton_self _)
      (fun p hp => by rw [Finset.mem_singleton.mp hp]; exact le_of_eq (if_pos hq))
      (fun g u hg => by
        rcases O₀_pos hg with ⟨k, hk, rfl⟩ | ⟨k, hk, rfl⟩
        · rw [lv_recv _ hk]; decide
        · exact Nat.one_pos)
  · rw [MayWait_zero]; iintro -; iempintro

omit [FloatOps F] in
/-- At its barrier wait a device owes receive credits only: receive cells, above its barrier cell. -/
theorem mayWait_bar (c : Dev nD) : (levAts L lv : sProp 𝕄) ⊢ MayWait (c : Thread nD τ) (.reg barS) () (OR c 0) :=
  MayOwe.of_cut (L := L) (lev := lv) 1 (fun p hp => by rw [Finset.mem_singleton.mp hp, L_tc]; exact Finset.mem_singleton_self _)
    (fun g u hg => by obtain ⟨k, -, rfl⟩ := OR_pos hg; exact Finset.mem_singleton_self _)
    (fun p hp => by rw [Finset.mem_singleton.mp hp]; exact le_refl 1)
    (fun g u hg => by obtain ⟨k, hk, rfl⟩ := OR_pos hg; rw [lv_recv _ hk]; decide)

end Cert.MoE

end
-- ==== Proof.Steps.lean ====
/-
# The exchange's steps, one lemma per kind of operation

Each lemma takes a program whose first operation is a step's, from the state before it: the records every device shares,
the state of the phase, and a rest `R` the operation does not touch.
-/
module

public import proofs.«01_k».proof.Proof.Common
public import Idealize.SL.BI.BigOpNat
public import Idealize.ShloMosaic.Lib.Pipeline.Value

@[expose] public section

noncomputable section

namespace Cert.MoE

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

/-- No loop of the kernel needs a variant. -/
abbrev 𝒱₀ : Variants := Variants.none

/-! ## The exchange's cells and the records kept of them -/

/-- The cells of the exchange, on each device 63: its barrier's (`0`), its sends' (`1 + k`), its receives' (`32 + k`). -/
def kcell (p : Dev nD × Fin 63) : GSem nD τ sig :=
  ((p.1 : Thread nD τ), if p.2.val = 0 then .reg barS else .dma (Fin.ofNat 66 (3 + p.2.val)))

/-- The barrier's place among a device's cells, -/
def iBar : Fin 63 := 0
/-- step `k`'s send's, -/
def iSend (k : ℕ) : Fin 63 := Fin.ofNat 63 (1 + k)
/-- and step `k`'s receive's. -/
def iRecv (k : ℕ) : Fin 63 := Fin.ofNat 63 (32 + k)

/-- The sends' places are numbered from 1, -/
theorem iSend_val {k : ℕ} (hk : k < 31) : (iSend k).val = 1 + k := by show (1 + k) % 63 = _; omega
/-- the receives' from 32. -/
theorem iRecv_val {k : ℕ} (hk : k < 31) : (iRecv k).val = 32 + k := by show (32 + k) % 63 = _; omega

/-- The cell at the barrier's place is the barrier's cell, -/
theorem kcell_bar (c : Dev nD) : kcell (c, iBar) = barCell c := rfl
/-- that at a send's place the send's, -/
theorem kcell_send (c : Dev nD) {k : ℕ} (hk : k < 31) : kcell (c, iSend k) = sendCell c k := by
  unfold kcell sendCell sendS
  rw [if_neg (by show (iSend k).val ≠ 0; rw [iSend_val hk]; omega)]
  rw [show ((c, iSend k) : Dev nD × Fin 63).2.val = 1 + k from iSend_val hk, ← Nat.add_assoc]
/-- that at a receive's place the receive's. -/
theorem kcell_recv (c : Dev nD) {k : ℕ} (hk : k < 31) : kcell (c, iRecv k) = recvCell c k := by
  unfold kcell recvCell recvS
  rw [if_neg (by show (iRecv k).val ≠ 0; rw [iRecv_val hk]; omega)]
  rw [show ((c, iRecv k) : Dev nD × Fin 63).2.val = 32 + k from iRecv_val hk, ← Nat.add_assoc]

/-- What every device knows throughout: each cell's invariant, under the name it was allocated at, that each cell's round
    `0` is reached, and the levels. -/
def recs (K : Dev nD × Fin 63 → ℕ) : sProp 𝕄 :=
  iprop(bigSep Finset.univ (fun p => iprop(cellInv ER (ringRd m ρ) (K p) (kcell p) ∗ reached ER (kcell p) 0)) ∗ levAts L lv)

instance recs_persistent (K : Dev nD × Fin 63 → ℕ) : BI.Persistent (recs m ρ K) := by unfold recs; infer_instance

/-- The records hold each cell's invariant and that its round is reached, -/
theorem recs_at (K : Dev nD × Fin 63 → ℕ) (p : Dev nD × Fin 63) :
    recs m ρ K ⊢ iprop(cellInv ER (ringRd m ρ) (K p) (kcell p) ∗ reached ER (kcell p) 0) := by
  unfold recs
  exact sep_elim_left.trans (bigSep_elim (Finset.mem_univ p))

/-- so of a barrier's cell, -/
theorem recs_bar (K : Dev nD × Fin 63 → ℕ) (c : Dev nD) :
    recs m ρ K ⊢ iprop(cellInv ER (ringRd m ρ) (K (c, iBar)) (barCell c) ∗ reached ER (barCell c) 0) := recs_at m ρ K (c, iBar)
/-- of a send's, -/
theorem recs_send (K : Dev nD × Fin 63 → ℕ) (c : Dev nD) {k : ℕ} (hk : k < 31) :
    recs m ρ K ⊢ iprop(cellInv ER (ringRd m ρ) (K (c, iSend k)) (sendCell c k) ∗ reached ER (sendCell c k) 0) := by
  have h := recs_at m ρ K (c, iSend k); rwa [kcell_send c hk] at h
/-- of a receive's, -/
theorem recs_recv (K : Dev nD × Fin 63 → ℕ) (c : Dev nD) {k : ℕ} (hk : k < 31) :
    recs m ρ K ⊢ iprop(cellInv ER (ringRd m ρ) (K (c, iRecv k)) (recvCell c k) ∗ reached ER (recvCell c k) 0) := by
  have h := recs_at m ρ K (c, iRecv k); rwa [kcell_recv c hk] at h
/-- and they hold the levels. -/
theorem recs_lev (K : Dev nD × Fin 63 → ℕ) : recs m ρ K ⊢ levAts L lv := by unfold recs; exact sep_elim_right

/-! ## The device that a step addresses, as the kernel computes it -/

/-- The number of the device that step `k` addresses, in the form in which the kernel computes it. -/
def devGen (k : ℕ) (c : Dev nD) : ℕ :=
  (Scalar.addi 0#32 (Scalar.muli (Scalar.remsi (Scalar.addi (myWord c) (BitVec.ofNat 32 (k + 1))) 32#32) 1#32)).toNat

/-- It is the peer's number, decided over the steps and the devices. -/
theorem devGen_all : ∀ (k : Fin 31) (c : Dev nD), devGen k.val c = (peer c k.val).val := by decide +kernel
/-- The same at a step below 31. -/
theorem devGen_eq {k : ℕ} (hk : k < 31) (c : Dev nD) : devGen k c = (peer c k).val := devGen_all ⟨k, hk⟩ c

/-! ## The phases' states -/

section States
variable (c : Dev nD)

/-- Before signal `n`: the tokens of the signals to come and the blocks they hand over. -/
def sigS (n : ℕ) : sProp 𝕄 :=
  iprop((bigSep (Finset.Ico n 31) fun k => iprop(dutyTok ER (barCell (peer c k)) 0 k ∗ ∃ f, gPts (F := F) c (peer c k) fullShare f))
    ∗ ∃ W, owes (c : Thread nD τ) (OB c n) W)

/-- Before send `n`: the tokens of the sends to come, the shares of the own rows they read and the places they write; the
    credits of those behind. -/
def sendSt (n : ℕ) : sProp 𝕄 :=
  iprop((bigSep (Finset.Ico n 31) fun k => iprop(dutyTok ER (sendCell c k) 0 0 ∗ dutyTok ER (recvCell (peer c k) k) 0 0
        ∗ gPts c c (tok k) (gFull m ρ) ∗ ∃ f, gPts (peer c k) c fullShare f))
    ∗ (bigSep (Finset.Ico 0 n) fun k => cred (tallyAt (sendCell c k) () N))
    ∗ ∃ W, owes (c : Thread nD τ) (OR c n) W)

/-- Before the wait for send `n`: what the waits to come need; what those behind gave. -/
def swSt (n : ℕ) : sProp 𝕄 :=
  iprop((bigSep (Finset.Ico n 31) fun k => iprop(cred (tallyAt (sendCell c k) () N) ∗ atPos ER (sendCell c k) 0 ∅ 0))
    ∗ bigSep (Finset.Ico 0 n) fun k => iprop(atPos ER (sendCell c k) 1 ∅ 0 ∗ gPts c c (tok k) (gFull m ρ)))
/-- Before the wait for receive `n`, likewise. -/
def rwSt (n : ℕ) : sProp 𝕄 :=
  iprop((bigSep (Finset.Ico n 31) fun k => iprop(cred (tallyAt (recvCell c k) () N) ∗ atPos ER (recvCell c k) 0 ∅ 0))
    ∗ bigSep (Finset.Ico 0 n) fun k => iprop(atPos ER (recvCell c k) 1 ∅ 0 ∗ gPts c (back c k) fullShare (gFull m ρ)))
/-- Nothing owed any more. -/
def owe0 : sProp 𝕄 := iprop(∃ W, owes (c : Thread nD τ) 0 W)

end States

/-! ## The steps -/

section Steps
variable (K : Dev nD × Fin 63 → ℕ) (c : Dev nD)

/-- Signal `k`, to the peer's barrier: it hands over the peer's rows of this device's buffer. -/
theorem sig_step {α : Type} {Q : α → sProp 𝕄} {kont : PUnit → Prog (TpuEff nD τ sig (Elt F) Λ₀ .tc) α} {R : sProp 𝕄} {k : ℕ} (hk : k < 31)
    {n : Dev nD} (hn : n.val = devGen k c)
    (h : iprop(recs m ρ K ∗ sigS c (k + 1) ∗ R) ⊢ wp frame (wpE (defs₀ (F := F)) 𝒱₀ (c : Thread nD τ) none) Set.univ (kont ⟨⟩) Q) :
    iprop(recs m ρ K ∗ sigS c k ∗ R) ⊢ wp frame (wpE (defs₀ (F := F)) 𝒱₀ (c : Thread nD τ) none) Set.univ
      (.op (.semSignal (n : Thread nD τ) barS 1) kont) Q := by
  have e : n = peer c k := Fin.ext (hn.trans (devGen_eq hk c))
  subst e
  unfold sigS
  rw [bigSep_Ico_succ_bot hk]
  iintro ⟨#HI, ⟨⟨⟨Ht, Hg⟩, Hrest⟩, %W, HO⟩, HR⟩
  ihave Hb := (recs_bar m ρ K (peer c k)) $$ HI
  icases Hb with ⟨#Hinv, #Hreach⟩
  iapply (Rounds.wp_signal 𝒱₀ ER (ringRd m ρ) (c : Thread nD τ) none (dst := (peer c k : Thread nD τ)) (κ := K (peer c k, iBar)) (r := 0)
      (d := k) (by rw [duties_bar]; exact Finset.mem_Ico.mpr ⟨Nat.zero_le _, hk⟩) (amount_bar m ρ (peer c k) k) () (OB c (k + 1)) (OB_succ c hk))
    $$ [HO Ht Hg]
  · isplitr; · iexact Hinv
    isplitl [HO]; · iexact HO
    isplitl [Ht]; · iexact Ht
    isplitl [Hg]
    · rw [payload_bar, back_peer c hk]; iexact Hg
    iexact Hreach
  iintro HO
  iapply h
  isplitr; · iexact HI
  isplitr [HR]
  · unfold sigS
    isplitl [Hrest]; · iexact Hrest
    iexists W; iexact HO
  iexact HR

omit [FloatOps F] in
/-- A copy of the own rows onto a peer's buffer leaves there, on those rows, what the own rows held. -/
theorem write_blk (c : Dev nD) (fd f : (cc0_scratch0 : Ref sig .tc).ty.Contents (Elt F)) (p : Dev nD) :
    (((blk c).view.loc (p : Thread nD τ) ↦[(blk c).view.set]{fullShare} ((blk c).view.write (Elt F) fd ((blk c).view.read (Elt F) f) Finset.univ)) : sProp 𝕄)
      = gPts p c fullShare f := by
  unfold gPts
  refine pointsTo_congr fun i hi => ?_
  obtain ⟨x, -, rfl⟩ := Finset.mem_map.mp hi
  rw [View.write_emb_of_mem _ _ (Finset.mem_univ x)]
  rfl

set_option maxHeartbeats 1600000 in
/-- Send `k`: the own rows go to the peer, through the share set aside for it. -/
theorem send_step {α : Type} {Q : α → sProp 𝕄} {kont : PUnit → Prog (TpuEff nD τ sig (Elt F) Λ₀ .tc) α} {R : sProp 𝕄} {k : ℕ} (hk : k < 31)
    {n : Dev nD} (hn : n.val = devGen k c) {sS rS : DmaSem sig} (hS : sS = sendS k) (hR : rS = recvS k)
    {hsc : (blk c : Memref sig (Dev.tc n : Thread nD τ).2.kind .vmem S16x512 .bf16).view.ref.isScScratch = false}
    {hsrc hdst : (blk c).view.WordExact}
    {hsem : DmaTarget.Typed .vmem (.dma rS) (.remote (Dev.tc n : Thread nD τ) (blk c : Memref sig .tc .vmem S16x512 .bf16) (.dma sS) hsc)}
    (h : iprop(recs m ρ K ∗ sendSt m ρ c (k + 1) ∗ R) ⊢ wp frame (wpE (defs₀ (F := F)) 𝒱₀ (c : Thread nD τ) none) Set.univ (kont ⟨⟩) Q) :
    iprop(recs m ρ K ∗ sendSt m ρ c k ∗ R) ⊢ wp frame (wpE (defs₀ (F := F)) 𝒱₀ (c : Thread nD τ) none) Set.univ
      (.op (.enqueueDma (blk c) (.remote (Dev.tc n : Thread nD τ) (blk c) (.dma sS) hsc) (.dma rS) hsrc hdst hsem) kont) Q := by
  have e : n = peer c k := Fin.ext (hn.trans (devGen_eq hk c))
  subst e hS hR
  unfold sendSt
  rw [bigSep_Ico_succ_bot hk]
  iintro ⟨#HI, ⟨⟨⟨HtS, HtR, Hsrc, %fd, Hdst⟩, Hrest⟩, Hcr, %W, HO⟩, HR⟩
  ihave Hb := (recs_send m ρ K c hk) $$ HI
  icases Hb with ⟨#HinvS, #HreachS⟩
  ihave Hb := (recs_recv m ρ K (peer c k) hk) $$ HI
  icases Hb with ⟨#HinvR, #HreachR⟩
  iapply (Rounds.wp_send_pointsTo 𝒱₀ ER (ringRd m ρ) (c : Thread nD τ) none (κ₁ := K (c, iSend k)) (κ₂ := K (peer c k, iRecv k))
    (r₁ := 0) (r₂ := 0) (d₁ := 0) (d₂ := 0) (fs := gFull m ρ) (fd := fd) (q := tok k) (c' := (peer c k : Thread nD τ)) (src := blk c) (dst := blk c)
    (by rw [duties_send m ρ c hk]; exact Finset.mem_singleton_self _) (by rw [duties_recv m ρ (peer c k) hk]; exact Finset.mem_singleton_self _)
    () () N rfl (amount_dma m ρ c (sendS k) 0) (amount_dma m ρ (peer c k) (recvS k) 0) (OR c (k + 1)) (OR_succ c hk) (W := W)
    (by rw [payload_send m ρ c hk]; exact BI.Entails.refl _)
    (by rw [payload_recv m ρ (peer c k) hk, back_peer c hk, write_blk]))
    $$ [HO HtS HtR Hsrc Hdst]
  · isplitr; · iexact HinvS
    isplitr; · iexact HinvR
    isplitl [Hsrc]; · unfold gPts; iexact Hsrc
    isplitl [Hdst]; · unfold gPts; iexact Hdst
    isplitl [HO]; · iexact HO
    isplitl [HtS]; · iexact HtS
    isplitr; · iexact HreachS
    isplitl [HtR]; · iexact HtR
    iexact HreachR
  iintro ⟨Hc, HO⟩
  iapply h
  isplitr; · iexact HI
  isplitr [HR]
  · unfold sendSt
    rw [bigSep_Ico_succ_top (Nat.zero_le k)]
    isplitl [Hrest]; · iexact Hrest
    isplitl [Hcr Hc]
    · isplitl [Hc] <;> iassumption
    iexists W; iexact HO
  iexact HR

/-- The wait for send `k`: the share of the own rows comes back. -/
theorem sw_step {α : Type} {Q : α → sProp 𝕄} {kont : PUnit → Prog (TpuEff nD τ sig (Elt F) Λ₀ .tc) α} {R : sProp 𝕄} {k : ℕ} (hk : k < 31)
    {s : DmaSem sig} (hS : s = sendS k) {h1 h2 : (blk c).view.WordExact}
    (h : iprop(recs m ρ K ∗ owe0 c ∗ swSt m ρ c (k + 1) ∗ R) ⊢ wp frame (wpE (defs₀ (F := F)) 𝒱₀ (c : Thread nD τ) none) Set.univ (kont ⟨⟩) Q) :
    iprop(recs m ρ K ∗ owe0 c ∗ swSt m ρ c k ∗ R) ⊢ wp frame (wpE (defs₀ (F := F)) 𝒱₀ (c : Thread nD τ) none) Set.univ
      (.op (.waitDma2 s (blk c) (blk c) h1 h2) kont) Q := by
  subst hS
  unfold swSt owe0
  rw [bigSep_Ico_succ_bot hk]
  iintro ⟨#HI, ⟨%W, HO⟩, ⟨⟨⟨Hc, Ha⟩, Hrest⟩, Hdone⟩, HR⟩
  ihave Hb := (recs_send m ρ K c hk) $$ HI
  icases Hb with ⟨#Hinv, #Hreach⟩
  iapply (Rounds.wp_wait_rest_token 𝒱₀ ER (ringRd m ρ) (c : Thread nD τ) none (κ := K (c, iSend k))
      (wpE_waitDma2_eq 𝒱₀ (c : Thread nD τ) none Set.univ) (Set.mem_univ _) () (O := 0) (W := W) (R := 0) (m := 0) (T := ∅)
      (by rw [Nat.zero_add, expect_send m ρ c hk])) $$ [Hc HO Ha]
  · isplitr; · iexact Hinv
    isplitl [Hc]; · iexact Hc
    isplitl [HO]; · iexact HO
    isplitr; · rw [MayWait_zero]; iempintro
    iexact Ha
  iintro ⟨HO, Ha, -, Hpay⟩
  ihave Hp := (Entails.of_eq (rest_send m ρ c hk)) $$ Hpay
  iapply h
  isplitr; · iexact HI
  isplitl [HO]; · unfold owe0; iexists _; iexact HO
  isplitr [HR]
  · unfold swSt
    rw [bigSep_Ico_succ_top (Nat.zero_le k)]
    isplitl [Hrest]; · iexact Hrest
    isplitr [Hdone]
    · isplitl [Ha] <;> iassumption
    iexact Hdone
  iexact HR

/-- The wait for receive `k`: the rows of the device whose step `k` addresses this one have arrived. -/
theorem rw_step {α : Type} {Q : α → sProp 𝕄} {kont : PUnit → Prog (TpuEff nD τ sig (Elt F) Λ₀ .tc) α} {R S : sProp 𝕄} {k : ℕ} (hk : k < 31)
    {s : DmaSem sig} (hS : s = recvS k) {h1 h2 : (blk c).view.WordExact}
    (h : iprop(recs m ρ K ∗ owe0 c ∗ S ∗ rwSt m ρ c (k + 1) ∗ R) ⊢ wp frame (wpE (defs₀ (F := F)) 𝒱₀ (c : Thread nD τ) none) Set.univ (kont ⟨⟩) Q) :
    iprop(recs m ρ K ∗ owe0 c ∗ S ∗ rwSt m ρ c k ∗ R) ⊢ wp frame (wpE (defs₀ (F := F)) 𝒱₀ (c : Thread nD τ) none) Set.univ
      (.op (.waitDma2 s (blk c) (blk c) h1 h2) kont) Q := by
  subst hS
  unfold rwSt owe0
  rw [bigSep_Ico_succ_bot hk]
  iintro ⟨#HI, ⟨%W, HO⟩, HSt, ⟨⟨⟨Hc, Ha⟩, Hrest⟩, Hdone⟩, HR⟩
  ihave Hb := (recs_recv m ρ K c hk) $$ HI
  icases Hb with ⟨#Hinv, #Hreach⟩
  iapply (Rounds.wp_wait_rest_token 𝒱₀ ER (ringRd m ρ) (c : Thread nD τ) none (κ := K (c, iRecv k))
      (wpE_waitDma2_eq 𝒱₀ (c : Thread nD τ) none Set.univ) (Set.mem_univ _) () (O := 0) (W := W) (R := 0) (m := 0) (T := ∅)
      (by rw [Nat.zero_add, expect_recv m ρ c hk])) $$ [Hc HO Ha]
  · isplitr; · iexact Hinv
    isplitl [Hc]; · iexact Hc
    isplitl [HO]; · iexact HO
    isplitr; · rw [MayWait_zero]; iempintro
    iexact Ha
  iintro ⟨HO, Ha, -, Hpay⟩
  ihave Hp := (Entails.of_eq (rest_recv m ρ c hk)) $$ Hpay
  iapply h
  isplitr; · iexact HI
  isplitl [HO]; · unfold owe0; iexists _; iexact HO
  isplitl [HSt]; · iexact HSt
  isplitr [HR]
  · unfold rwSt
    rw [bigSep_Ico_succ_top (Nat.zero_le k)]
    isplitl [Hrest]; · iexact Hrest
    isplitr [Hdone]
    · isplitl [Ha] <;> iassumption
    iexact Hdone
  iexact HR

end Steps

end Cert.MoE

end
-- ==== Proof.Body.lean ====
/-
# The body on one device

From its start (its inputs staged, its gathered buffer in 32 blocks, its share of the exchange's ghost state) to its end
(the result staged, every block of the gathered buffer holding its device's rows, its cells back at zero).
-/
module

public import proofs.«01_k».proof.Proof.Steps
public import Idealize.ShloMosaic.Lib.Rounds.Family

@[expose] public section

noncomputable section

namespace Cert.MoE

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

/-! ## Families over a device's cells and over the others -/

omit [FloatOps F] in
/-- A family over a device's 63 cells is its barrier's member, its sends' and its receives'. -/
theorem bigSep_cells (Φ : Fin 63 → sProp 𝕄) : bigSep Finset.univ Φ
    = iprop(Φ iBar ∗ (bigSep (Finset.Ico 0 31) fun k => Φ (iSend k)) ∗ bigSep (Finset.Ico 0 31) fun k => Φ (iRecv k)) := by
  have hs : Set.InjOn iSend (Finset.Ico 0 31 : Finset ℕ) := by
    intro a ha b hb h
    have ha' := (Finset.mem_Ico.mp (Finset.mem_coe.mp ha)).2; have hb' := (Finset.mem_Ico.mp (Finset.mem_coe.mp hb)).2
    have h' := congrArg Fin.val h; rw [iSend_val ha', iSend_val hb'] at h'; omega
  have hr : Set.InjOn iRecv (Finset.Ico 0 31 : Finset ℕ) := by
    intro a ha b hb h
    have ha' := (Finset.mem_Ico.mp (Finset.mem_coe.mp ha)).2; have hb' := (Finset.mem_Ico.mp (Finset.mem_coe.mp hb)).2
    have h' := congrArg Fin.val h; rw [iRecv_val ha', iRecv_val hb'] at h'; omega
  have hu : (Finset.univ : Finset (Fin 63)) = insert iBar ((Finset.Ico 0 31).image iSend ∪ (Finset.Ico 0 31).image iRecv) := by decide
  rw [hu, bigSep_insert (by decide), bigSep_union (by decide), bigSep_image' hs, bigSep_image' hr]
  rfl

/-- The devices whose steps address `c` are those that its own steps address. -/
theorem image_peer_back (c : Dev nD) : (Finset.Ico 0 31).image (back c) = (Finset.Ico 0 31).image (peer c) := by
  have h := (univ_back c).symm.trans (univ_peer c)
  have h1 : c ∉ (Finset.Ico 0 31).image (back c) := fun h => by obtain ⟨k, hk, e⟩ := Finset.mem_image.mp h; exact back_ne c (Finset.mem_Ico.mp hk).2 e
  have h2 : c ∉ (Finset.Ico 0 31).image (peer c) := fun h => by obtain ⟨k, hk, e⟩ := Finset.mem_image.mp h; exact peer_ne c (Finset.mem_Ico.mp hk).2 e
  rw [← Finset.erase_insert h1, h, Finset.erase_insert h2]

omit [FloatOps F] in
/-- A family over the other devices, by the steps that address this one or by the steps that it addresses. -/
theorem bigSep_back_peer (c : Dev nD) (Φ : Dev nD → sProp 𝕄) :
    bigSep (Finset.Ico 0 31) (fun k => Φ (back c k)) = bigSep (Finset.Ico 0 31) fun k => Φ (peer c k) := by
  rw [← bigSep_image' (back_inj c), image_peer_back, bigSep_image' (peer_inj c)]

/-! ## The gathered buffer and its blocks -/

/-- Different devices' rows are disjoint. -/
theorem blk_disjoint (b b' : Dev nD) (h : b ≠ b') : Disjoint (blk b).view.set (blk b').view.set := by
  rw [Finset.disjoint_left]
  intro i hi hi'
  obtain ⟨x, -, rfl⟩ := Finset.mem_map.mp hi
  obtain ⟨y, -, e⟩ := Finset.mem_map.mp hi'
  have e0 : ((blk b').view.emb y 0).val = ((blk b).view.emb x 0).val := congrArg (fun j => (j 0).val) e
  rw [blk_emb_0, blk_emb_0] at e0
  have hx : (x 0).val < 16 := (x 0).isLt
  have hy : (y 0).val < 16 := (y 0).isLt
  exact h (Fin.ext (by omega))

/-- An element is in the rows of the device that its row number names, -/
theorem mem_blk (i : (cc0_scratch0 : Ref sig .tc).ty.Idx) (b : Dev nD) (hb : b.val = (i 0).val / 16) : i ∈ (blk b).view.set := by
  have h : ∃ y : S16x512.Idx, (y 0).val = (i 0).val % 16 ∧ (y 1).val = (i 1).val :=
    ⟨ValueIdx.ix2 (⟨(i 0).val % 16, Nat.mod_lt _ (by decide)⟩ : Fin 16) (i 1 : Fin 512), rfl, rfl⟩
  obtain ⟨y, hy0, hy1⟩ := h
  refine Finset.mem_map.mpr ⟨y, Finset.mem_univ _, ?_⟩
  have e0 : ((blk b).view.emb y 0).val = (i 0).val := by rw [blk_emb_0, hy0, hb]; omega
  have e1 : ((blk b).view.emb y 1).val = (i 1).val := by rw [blk_emb_1, hy1]
  funext a
  match a with
  | ⟨0, _⟩ => exact Fin.ext e0
  | ⟨1, _⟩ => exact Fin.ext e1

/-- so in some device's rows. -/
theorem exists_blk (i : (cc0_scratch0 : Ref sig .tc).ty.Idx) : ∃ b : Dev nD, i ∈ (blk b).view.set := by
  have h0 : (i 0).val < 512 := (i 0).isLt
  have hn : nD = 32 := rfl
  exact ⟨⟨(i 0).val / 16, by omega⟩, mem_blk i _ rfl⟩

/-- All devices' rows make up the buffer. -/
theorem blk_cover : Finset.biUnion (β := (cc0_scratch0 : Ref sig .tc).ty.Idx) Finset.univ (fun b : Dev nD => (blk b).view.set) = Finset.univ :=
  Finset.eq_univ_of_forall fun i => by
    obtain ⟨b, hb⟩ := exists_blk i
    exact Finset.mem_biUnion.mpr ⟨b, Finset.mem_univ b, hb⟩

omit [FloatOps F] in
/-- The gathered buffer of `p` held whole is held block by block. -/
theorem whole_blocks (p : Dev nD) (f : (cc0_scratch0 : Ref sig .tc).ty.Contents (Elt F)) :
    (((p : Thread nD τ).loc cc0_scratch0 ↦{fullShare} f) : sProp 𝕄) = bigSep Finset.univ fun b => gPts p b fullShare f :=
  Ring.pointsTo_blocks (ℓ := (p : Thread nD τ).loc cc0_scratch0) (fun b : Dev nD => (blk b).view.set) blk_disjoint blk_cover f

/-! ## The states at the body's ends -/

/-- A buffer of device `c`, held whole at the contents `X`. -/
abbrev stgP (c : Dev nD) (b : Ref sig .tc) (X : b.ty.Contents (Elt F)) : sProp 𝕄 :=
  ((c : Thread nD τ).loc b) ↦{fullShare} X

/-- The kernel's result on device `c`: each token's row off the gathered buffer. -/
def outAt (c : Dev nD) : (cc0_stg3_0 : Ref sig .tc).ty.Contents (Elt F) := k0_pay1 (pfullOf (rstg m ρ c)) (gFull m ρ)

/-- A family over a device's cells, cell by cell. -/
theorem bigSep_kcells (c : Dev nD) (Φ : GSem nD τ sig → sProp 𝕄) : bigSep Finset.univ (fun i => Φ (kcell (c, i)))
    = iprop(Φ (barCell c) ∗ (bigSep (Finset.Ico 0 31) fun k => Φ (sendCell c k)) ∗ bigSep (Finset.Ico 0 31) fun k => Φ (recvCell c k)) := by
  rw [bigSep_cells,
    bigSep_congr (s := Finset.Ico 0 31) (Φ := fun k => Φ (kcell (c, iSend k))) (Ψ := fun k => Φ (sendCell c k)) fun k hk => by rw [kcell_send c (Finset.mem_Ico.mp hk).2],
    bigSep_congr (s := Finset.Ico 0 31) (Φ := fun k => Φ (kcell (c, iRecv k))) (Ψ := fun k => Φ (recvCell c k)) fun k hk => by rw [kcell_recv c (Finset.mem_Ico.mp hk).2], kcell_bar]

/-- The exchange's ghost state at the body's start, beside the state before the first signal. -/
def ghostIn (c : Dev nD) : sProp 𝕄 :=
  iprop((∃ f, gPts (F := F) c c fullShare f)
    ∗ cred (tallyAt (barCell c) () 31) ∗ atPos ER (barCell c) 0 ∅ 0
    ∗ (bigSep (Finset.Ico 0 31) fun k => iprop(dutyTok ER (sendCell c k) 0 0 ∗ dutyTok ER (recvCell (peer c k) k) 0 0))
    ∗ (bigSep (Finset.Ico 0 31) fun k => atPos ER (sendCell c k) 0 ∅ 0)
    ∗ (bigSep (Finset.Ico 0 31) fun k => iprop(cred (tallyAt (recvCell c k) () N) ∗ atPos ER (recvCell c k) 0 ∅ 0)))

/-- What the body leaves of the exchange. -/
def ghostOut (c : Dev nD) : sProp 𝕄 :=
  iprop(owe0 c ∗ stgP c cc0_scratch0 (gFull m ρ) ∗ bigSep Finset.univ fun i : Fin 63 => semVal (kcell (c, i)) 0)

section Body
variable (K : Dev nD × Fin 63 → ℕ) (c : Dev nD)

/-- The offsets of a whole buffer are zero. -/
theorem hz2 : (![0, 0] : Fin 2 → Nat) = fun _ => 0 := funext fun a => by fin_cases a <;> rfl

/-- The rows that a device computes are stored where they are sent from. -/
theorem off1_off2 : k0_off1 c = k0_off2 c := by rw [k0_off1_eq, k0_off2_eq]

/-- The rectangle the own rows are stored through. -/
abbrev rOwn (o : Fin 2 → ℕ) (h : ∀ a, o a + S16x512.size a ≤ S512x512.size a) : Rect S512x512 := Rect.unit (s := S512x512) o S16x512.size h

/-- The load of the own rows (its value is not used): they are held. -/
theorem own_load {α : Type} {Q : α → sProp 𝕄} {o : Fin 2 → ℕ} {h : ∀ a, o a + S16x512.size a ≤ S512x512.size a} (e : o = k0_off2 c)
    {hl : gM.view.LoadsAt (rOwn o h).toLoadRect}
    {kont : ((rOwn o h).toLoadRect.shape.Idx → Elt F .bf16) → Prog (TpuEff nD τ sig (Elt F) Λ₀ .tc) α} {f : (cc0_scratch0 : Ref sig .tc).ty.Contents (Elt F)} :
    gPts c c fullShare f ⊢ iprop((gPts c c fullShare f -∗ wp frame (wpE (defs₀ (F := F)) 𝒱₀ (c : Thread nD τ) none) Set.univ
        (kont (gM.view.readAt (Elt F) (rOwn o h).toLoadRect f)) Q)
      -∗ wp frame (wpE (defs₀ (F := F)) 𝒱₀ (c : Thread nD τ) none) Set.univ (.op (.load gM (rOwn o h).toLoadRect hl) kont) Q) := by
  subst e
  exact wp_load 𝒱₀ (c : Thread nD τ) none Set.univ (m := gM) (S := (blk c).view.set) (q := fullShare) (f := f) (View.set_slice gM.view (rOwn _ h)).ge

set_option maxRecDepth 65536 in
/-- The store of the own rows: they hold what this device computed. -/
theorem own_store {α : Type} {Q : α → sProp 𝕄} {o : Fin 2 → ℕ} {h : ∀ a, o a + S16x512.size a ≤ S512x512.size a} (e : o = k0_off2 c)
    {v : FVec F S16x512 .bf16} (hv : v = rowsAt m ρ c)
    {hx : (gM.access (rOwn o h)).Stores Finset.univ} {hm : (Finset.univ : Finset (rOwn o h).shape.Idx) = Finset.univ ∨ ∀ a, (rOwn o h).stride a = 1}
    {kont : PUnit → Prog (TpuEff nD τ sig (Elt F) Λ₀ .tc) α} {f : (cc0_scratch0 : Ref sig .tc).ty.Contents (Elt F)} :
    gPts c c fullShare f ⊢ iprop((gPts c c fullShare (gFull m ρ) -∗ wp frame (wpE (defs₀ (F := F)) 𝒱₀ (c : Thread nD τ) none) Set.univ (kont ⟨⟩) Q)
      -∗ wp frame (wpE (defs₀ (F := F)) 𝒱₀ (c : Thread nD τ) none) Set.univ (.op (.store gM (rOwn o h) v Finset.univ hx hm) kont) Q) := by
  subst e hv
  have hw : (((gM.access (rOwn (k0_off2 c) h)).loc (c : Thread nD τ) ↦[(blk c).view.set]{fullShare} ((gM.access (rOwn (k0_off2 c) h)).write (Elt F) f (rowsAt m ρ c) Finset.univ)) : sProp 𝕄)
      = gPts c c fullShare (gFull m ρ) := by
    unfold gPts
    refine pointsTo_congr fun i hi => ?_
    obtain ⟨x, -, rfl⟩ := Finset.mem_map.mp hi
    rw [gFull_emb]
    exact View.write_emb_of_mem (v := gM.access (rOwn (k0_off2 c) h)) _ _ (Finset.mem_univ x)
  rw [← hw]
  exact wp_store 𝒱₀ (c : Thread nD τ) none Set.univ (m := gM) (r := rOwn (k0_off2 c) h) (Mk := Finset.univ) (S := (blk c).view.set) (f := f) subset_rfl

/-- The store of the result. -/
theorem out_store {α : Type} {Q : α → sProp 𝕄} {v : FVec F S512x512 .f32} (hv : v = outAt m ρ c)
    {hx : (oM.access (Rect.unit (s := S512x512) ![0, 0] S512x512.size inb_S512x512_S512x512_0_0)).Stores Finset.univ}
    {hm : (Finset.univ : Finset (Rect.unit (s := S512x512) ![0, 0] S512x512.size inb_S512x512_S512x512_0_0).shape.Idx) = Finset.univ
      ∨ ∀ a, (Rect.unit (s := S512x512) ![0, 0] S512x512.size inb_S512x512_S512x512_0_0).stride a = 1}
    {kont : PUnit → Prog (TpuEff nD τ sig (Elt F) Λ₀ .tc) α} {f : (cc0_stg3_0 : Ref sig .tc).ty.Contents (Elt F)} :
    stgP c cc0_stg3_0 f ⊢ iprop((stgP c cc0_stg3_0 (outAt m ρ c) -∗ wp frame (wpE (defs₀ (F := F)) 𝒱₀ (c : Thread nD τ) none) Set.univ (kont ⟨⟩) Q)
      -∗ wp frame (wpE (defs₀ (F := F)) 𝒱₀ (c : Thread nD τ) none) Set.univ
        (.op (.store oM (Rect.unit (s := S512x512) ![0, 0] S512x512.size inb_S512x512_S512x512_0_0) v Finset.univ hx hm) kont) Q) := by
  subst hv
  have hw : (((oM.access (Rect.unit (s := S512x512) ![0, 0] S512x512.size inb_S512x512_S512x512_0_0)).loc (c : Thread nD τ) ↦{fullShare}
      ((oM.access (Rect.unit (s := S512x512) ![0, 0] S512x512.size inb_S512x512_S512x512_0_0)).write (Elt F) f (outAt m ρ c) Finset.univ)) : sProp 𝕄)
      = stgP c cc0_stg3_0 (outAt m ρ c) :=
    congrArg (fun g => (((c : Thread nD τ).loc cc0_stg3_0 ↦{fullShare} g) : sProp 𝕄)) (Memref.write_access_unit_zero_univ (Elt F) cc0_stg3_0 hz2 _ _ _)
  rw [← hw]
  exact wp_store 𝒱₀ (c : Thread nD τ) none Set.univ (m := oM) (r := Rect.unit (s := S512x512) ![0, 0] S512x512.size inb_S512x512_S512x512_0_0)
    (Mk := Finset.univ) (S := Finset.univ) (f := f) (Finset.subset_univ _)

/-- The levels allow a device that owes only receives to wait at its barrier. -/
theorem recs_mayBar : recs m ρ K ⊢ (MayWait (c : Thread nD τ) (.reg barS) () (OR c 0) : sProp 𝕄) := by
  unfold recs; iintro ⟨-, H⟩; iapply (mayWait_bar (F := F) c); iexact H

/-- The barrier wait: every peer has handed over this device's rows of its buffer. -/
theorem bar_wait {α : Type} {Q : α → sProp 𝕄} {kont : PUnit → Prog (TpuEff nD τ sig (Elt F) Λ₀ .tc) α} (W : Waits sig Unit) :
    iprop(recs m ρ K ∗ cred (tallyAt (barCell c) () 31) ∗ owes (c : Thread nD τ) (OR c 0) W ∗ atPos ER (barCell c) 0 ∅ 0)
      ⊢ iprop(((∃ W, owes (c : Thread nD τ) (OR c 0) W) ∗ atPos ER (barCell c) 1 ∅ 0
            ∗ (bigSep (Finset.Ico 0 31) fun k => iprop(∃ f, gPts (F := F) (peer c k) c fullShare f))
          -∗ wp frame (wpE (defs₀ (F := F)) 𝒱₀ (c : Thread nD τ) none) Set.univ (kont ⟨⟩) Q)
        -∗ wp frame (wpE (defs₀ (F := F)) 𝒱₀ (c : Thread nD τ) none) Set.univ (.op (.semWait barS 31) kont) Q) := by
  iintro ⟨#HI, HcB, HO, HatB⟩ Hk
  ihave Hb := (recs_bar m ρ K c) $$ HI
  icases Hb with ⟨#Hinv, -⟩
  iapply (Rounds.wp_wait_rest_token 𝒱₀ ER (ringRd m ρ) (c : Thread nD τ) none (κ := K (c, iBar))
      (wpE_semWait_eq 𝒱₀ (c : Thread nD τ) none Set.univ) (Set.mem_univ _) () (O := OR c 0) (W := W) (R := 0) (m := 0) (T := ∅)
      ((Nat.zero_add _).trans (expect_bar m ρ c).symm)) $$ [HcB HO HatB]
  · isplitr; · iexact Hinv
    isplitl [HcB]; · iexact HcB
    isplitl [HO]; · iexact HO
    isplitr; · iapply (recs_mayBar m ρ K c); iexact HI
    iexact HatB
  iintro ⟨HO, HatB, -, Hpay⟩
  ihave Hp := (Entails.of_eq ((rest_bar m ρ c).trans (bigSep_back_peer c fun p => iprop(∃ f, gPts (F := F) p c fullShare f)))) $$ Hpay
  iapply Hk
  isplitl [HO]; · iexists _; iexact HO
  isplitl [HatB] <;> iassumption

/-- The state before the first send, from the own rows held whole, the peers' places and the tokens. -/
theorem sends_start : iprop(gPts c c fullShare (gFull m ρ)
      ∗ (bigSep (Finset.Ico 0 31) fun k => iprop(dutyTok ER (sendCell c k) 0 0 ∗ dutyTok ER (recvCell (peer c k) k) 0 0))
      ∗ (bigSep (Finset.Ico 0 31) fun k => iprop(∃ f, gPts (F := F) (peer c k) c fullShare f))
      ∗ ∃ W, owes (c : Thread nD τ) (OR c 0) W)
    ⊢ iprop(sendSt m ρ c 0 ∗ gPts c c (Transfers.shareDrop fullShare 31) (gFull m ρ)) := by
  unfold sendSt
  rw [Finset.Ico_self, bigSep_empty]
  iintro ⟨Hown, Ht, Hp, HO⟩
  ihave Hs := ((Transfers.pointsTo_toks_range (ℓ := (blk c).view.loc (c : Thread nD τ)) (S := (blk c).view.set) (f := gFull m ρ) fullShare 31).1) $$ [Hown]
  · unfold gPts; iexact Hown
  icases Hs with ⟨Hdrop, Hs⟩
  isplitr [Hdrop]
  · isplitl [Hs Ht Hp]
    · iapply (show iprop((bigSep (Finset.Ico 0 31) fun k => iprop(dutyTok ER (sendCell c k) 0 0 ∗ dutyTok ER (recvCell (peer c k) k) 0 0))
          ∗ (bigSep (Finset.Ico 0 31) fun k => gPts c c (tok k) (gFull m ρ))
          ∗ (bigSep (Finset.Ico 0 31) fun k => iprop(∃ f, gPts (F := F) (peer c k) c fullShare f)))
          ⊢ bigSep (Finset.Ico 0 31) fun k => iprop(dutyTok ER (sendCell c k) 0 0 ∗ dutyTok ER (recvCell (peer c k) k) 0 0
            ∗ gPts c c (tok k) (gFull m ρ) ∗ ∃ f, gPts (F := F) (peer c k) c fullShare f) from by
        rw [← bigSep_sep', ← bigSep_sep']
        refine bigSep_mono fun k _ => ?_
        show iprop(_ ∗ _ ∗ _) ⊢ (_ : sProp 𝕄)
        iintro ⟨⟨H1, H2⟩, H3, H4⟩
        isplitl [H1]; · iexact H1
        isplitl [H2]; · iexact H2
        isplitl [H3] <;> iassumption)
      isplitl [Ht]; · iexact Ht
      isplitl [Hs]
      · rw [← Finset.range_eq_Ico]; unfold gPts; iexact Hs
      iexact Hp
    isplitr
    · iempintro
    iexact HO
  unfold gPts; iexact Hdrop

/-- Between the sends and the waits. -/
theorem waits_start : iprop(sendSt m ρ c 31
      ∗ (bigSep (Finset.Ico 0 31) fun k => atPos ER (sendCell c k) 0 ∅ 0)
      ∗ (bigSep (Finset.Ico 0 31) fun k => iprop(cred (tallyAt (recvCell c k) () N) ∗ atPos ER (recvCell c k) 0 ∅ 0)))
    ⊢ iprop(owe0 c ∗ swSt m ρ c 0 ∗ rwSt m ρ c 0) := by
  unfold sendSt swSt rwSt owe0
  rw [Finset.Ico_self, Finset.Ico_self, bigSep_empty, bigSep_empty, bigSep_empty, OR_end]
  iintro ⟨⟨-, Hc, HO⟩, HaS, Hrecv⟩
  isplitl [HO]; · iexact HO
  isplitl [Hc HaS]
  · isplitl
    · rw [bigSep_sep']; isplitl [Hc] <;> iassumption
    iempintro
  isplitl
  · iexact Hrecv
  iempintro

/-- After the waits: the whole buffer at every device's rows, and the positions past round 0. -/
theorem waits_end : iprop(swSt m ρ c 31 ∗ rwSt m ρ c 31 ∗ gPts c c (Transfers.shareDrop fullShare 31) (gFull m ρ) ∗ atPos ER (barCell c) 1 ∅ 0)
    ⊢ iprop(stgP c cc0_scratch0 (gFull m ρ) ∗ bigSep Finset.univ fun i => atPos ER (kcell (c, i)) 1 ∅ 0) := by
  unfold swSt rwSt
  rw [Finset.Ico_self, bigSep_empty, bigSep_empty, bigSep_sep', bigSep_sep', bigSep_kcells c fun g => atPos ER g 1 ∅ 0]
  iintro ⟨⟨-, HaS, Hs⟩, ⟨-, HaR, Hb⟩, Hdrop, HaB⟩
  isplitl [Hs Hb Hdrop]
  · iapply (Entails.of_eq (whole_blocks c (gFull m ρ)).symm)
    rw [bigSep_dev_back c]
    isplitr [Hb]
    · unfold gPts
      iapply ((Transfers.pointsTo_toks_range (ℓ := (blk c).view.loc (c : Thread nD τ)) (S := (blk c).view.set) (f := gFull m ρ) fullShare 31).2)
      rw [Finset.range_eq_Ico]
      isplitl [Hdrop] <;> iassumption
    iexact Hb
  isplitl [HaB]; · iexact HaB
  isplitl [HaS] <;> iassumption

/-- The cells close: their counters are at zero. -/
theorem cells_end : iprop(recs m ρ K ∗ bigSep Finset.univ fun i => atPos ER (kcell (c, i)) 1 ∅ 0)
    ⊢ (iprop(|={Set.univ}=> bigSep Finset.univ fun i : Fin 63 => semVal (kcell (c, i)) 0) : sProp 𝕄) := by
  refine BIBase.Entails.trans ?_ (Rounds.cells_close ER (ringRd m ρ) Finset.univ (fun i : Fin 63 => kcell (c, i)) (fun i => K (c, i))
    (fun _ _ => Set.mem_univ _) (fun _ _ h => h) (fun _ => 1) (fun i _ => duties_later m ρ (kcell (c, i))))
  rw [bigSep_sep']
  refine sep_mono_left ?_
  refine (bigSep_of_persistent Finset.univ (recs m ρ K)).trans (bigSep_mono fun i _ => ?_)
  exact (recs_at m ρ K (c, i)).trans sep_elim_left

set_option maxHeartbeats 8000000 in
set_option maxRecDepth 65536 in
set_option sl_open_parts.maxParts 40 in
/-- The body, run one operation at a time from its start to its end. -/
theorem sound_body (Kt : PUnit → sProp 𝕄) :
    iprop(recs m ρ K ∗ sigS c 0 ∗ ghostIn c ∗ stgP c cc0_stg0_0 (xstg m ρ c) ∗ stgP c cc0_stg1_0 (rstg m ρ c) ∗ stgP c cc0_stg2_0 (wstg m ρ c)
        ∗ (∃ f, stgP (F := F) c cc0_stg3_0 f)
        ∗ ((ghostOut m ρ c ∗ stgP c cc0_stg0_0 (xstg m ρ c) ∗ stgP c cc0_stg1_0 (rstg m ρ c) ∗ stgP c cc0_stg2_0 (wstg m ρ c)
            ∗ stgP c cc0_stg3_0 (outAt m ρ c)) -∗ Kt ⟨⟩))
      ⊢ wp frame (wpE (defs₀ (F := F)) 𝒱₀ c none) Set.univ
          (cc0_body (Memref.whole cc0_stg0_0) (Memref.isWhole_whole _) (Memref.whole cc0_stg1_0) (Memref.isWhole_whole _)
            (Memref.whole cc0_stg2_0) (Memref.isWhole_whole _) (Memref.whole cc0_stg3_0) (Memref.isWhole_whole _)
            (Memref.whole cc0_scratch0) (Memref.isWhole_whole _) cc0_scratch1 cc0_scratch2) Kt := by
  simp only [cc0_body_eq_skeleton]; unfold cc0_body_skel
  sl_open_parts
  simp only [semSignalWord, semWaitWord, Prog.lift, Prog.bind_op, Prog.bind_ret, Prog.pure_eq_ret, wp_deviceId]
  -- the 31 signals
  iterate 31 refine sig_step m ρ K c (by decide) rfl ?_
  unfold ghostIn sigS
  iintro ⟨#HI, ⟨-, %W, HO⟩, ⟨⟨%f0, Hown⟩, HcB, HatB, Htoks, HatS, Hrecv⟩, Hx, Hr, Hw, ⟨%fo, Hout⟩, Hk⟩
  -- the inputs, the own rows
  iapply (wp_load 𝒱₀ (c : Thread nD τ) none Set.univ (m := rM) (Finset.subset_univ _)) $$ Hr; iintro Hr
  rw [show rM.view.readAt (Elt F) (Rect.unit (s := S512x1) ![0, 0] S512x1.size inb_S512x1_S512x1_0_0).toLoadRect (rstg m ρ c) = rstg m ρ c from
    Memref.readAt_unit_zero (Elt F) cc0_stg1_0 hz2 _ _]
  iapply (wp_load 𝒱₀ (c : Thread nD τ) none Set.univ (m := xM) (Finset.subset_univ _)) $$ Hx; iintro Hx
  rw [show xM.view.readAt (Elt F) (Rect.unit (s := S512x256) ![0, 0] S512x256.size inb_S512x256_S512x256_0_0).toLoadRect (xstg m ρ c) = xstg m ρ c from
    Memref.readAt_unit_zero (Elt F) cc0_stg0_0 hz2 _ _]
  iterate 4 (iapply (wp_load 𝒱₀ (c : Thread nD τ) none Set.univ (m := wM) (Finset.subset_univ _)) $$ Hw; iintro Hw)
  iapply (own_load c (off1_off2 c)) $$ Hown; iintro Hown
  iapply (own_store m ρ c (off1_off2 c) rfl) $$ Hown; iintro Hown
  -- the barrier
  iapply (bar_wait m ρ K c W) $$ [HcB HO HatB]
  · isplitr; · iexact HI
    isplitl [HcB]; · iexact HcB
    isplitl [HO]; · rw [← OB_end c]; iexact HO
    iexact HatB
  iintro ⟨HO, HatB, Hplaces⟩
  ihave Hst := (sends_start m ρ c) $$ [Hown Htoks Hplaces HO]
  · isplitl [Hown]; · iexact Hown
    isplitl [Htoks]; · iexact Htoks
    isplitl [Hplaces] <;> iassumption
  icases Hst with ⟨Hst, Hdrop⟩
  -- the 31 sends
  istop
  refine BIBase.Entails.trans (Q := iprop(recs m ρ K ∗ sendSt m ρ c 0
      ∗ (gPts c c (Transfers.shareDrop fullShare 31) (gFull m ρ) ∗ atPos ER (barCell c) 1 ∅ 0
        ∗ (bigSep (Finset.Ico 0 31) fun k => atPos ER (sendCell c k) 0 ∅ 0)
        ∗ (bigSep (Finset.Ico 0 31) fun k => iprop(cred (tallyAt (recvCell c k) () N) ∗ atPos ER (recvCell c k) 0 ∅ 0))
        ∗ stgP c cc0_stg0_0 (xstg m ρ c) ∗ stgP c cc0_stg1_0 (rstg m ρ c) ∗ stgP c cc0_stg2_0 (wstg m ρ c) ∗ stgP c cc0_stg3_0 fo
        ∗ ((ghostOut m ρ c ∗ stgP c cc0_stg0_0 (xstg m ρ c) ∗ stgP c cc0_stg1_0 (rstg m ρ c) ∗ stgP c cc0_stg2_0 (wstg m ρ c)
            ∗ stgP c cc0_stg3_0 (outAt m ρ c)) -∗ Kt ⟨⟩)))) ?_ ?_
  · iintro ⟨⟨⟨⟨⟨⟨⟨⟨⟨⟨#HI, HatS⟩, Hrecv⟩, Hout⟩, Hk⟩, Hr⟩, Hx⟩, Hw⟩, HatB⟩, Hst⟩, Hdrop⟩
    isplitr; · iexact HI
    isplitl [Hst]; · iexact Hst
    isplitl [Hdrop]; · iexact Hdrop
    isplitl [HatB]; · iexact HatB
    isplitl [HatS]; · iexact HatS
    isplitl [Hrecv]; · iexact Hrecv
    isplitl [Hx]; · iexact Hx
    isplitl [Hr]; · iexact Hr
    isplitl [Hw]; · iexact Hw
    isplitl [Hout] <;> iassumption
  iterate 31 refine send_step m ρ K c (by decide) rfl rfl rfl ?_
  refine BIBase.Entails.trans (Q := iprop(recs m ρ K ∗ owe0 c ∗ swSt m ρ c 0 ∗ rwSt m ρ c 0
      ∗ (gPts c c (Transfers.shareDrop fullShare 31) (gFull m ρ) ∗ atPos ER (barCell c) 1 ∅ 0
        ∗ stgP c cc0_stg0_0 (xstg m ρ c) ∗ stgP c cc0_stg1_0 (rstg m ρ c) ∗ stgP c cc0_stg2_0 (wstg m ρ c) ∗ stgP c cc0_stg3_0 fo
        ∗ ((ghostOut m ρ c ∗ stgP c cc0_stg0_0 (xstg m ρ c) ∗ stgP c cc0_stg1_0 (rstg m ρ c) ∗ stgP c cc0_stg2_0 (wstg m ρ c)
            ∗ stgP c cc0_stg3_0 (outAt m ρ c)) -∗ Kt ⟨⟩)))) ?_ ?_
  · iintro ⟨#HI, Hst, Hdrop, HatB, HatS, Hrecv, Hrest⟩
    ihave H := (waits_start m ρ c) $$ [Hst HatS Hrecv]
    · isplitl [Hst]; · iexact Hst
      isplitl [HatS] <;> iassumption
    icases H with ⟨HO, Hsw, Hrw⟩
    isplitr; · iexact HI
    isplitl [HO]; · iexact HO
    isplitl [Hsw]; · iexact Hsw
    isplitl [Hrw]; · iexact Hrw
    isplitl [Hdrop]; · iexact Hdrop
    isplitl [HatB] <;> iassumption
  -- the waits for the sends and the receives, in turn
  iterate 31
    refine sw_step m ρ K c (by decide) rfl ?_
    refine rw_step m ρ K c (by decide) rfl ?_
  -- the result
  iintro ⟨#HI, HO, Hsw, Hrw, Hdrop, HatB, Hx, Hr, Hw, Hout, Hk⟩
  ihave H := (waits_end m ρ c) $$ [Hsw Hrw Hdrop HatB]
  · isplitl [Hsw]; · iexact Hsw
    isplitl [Hrw]; · iexact Hrw
    isplitl [Hdrop] <;> iassumption
  icases H with ⟨Hg, Hat⟩
  imod (cells_end m ρ K c) $$ [Hat] with Hz
  · isplitr; · iexact HI
    iexact Hat
  iapply (wp_load 𝒱₀ (c : Thread nD τ) none Set.univ (m := gM) (Finset.subset_univ _)) $$ Hg; iintro Hg
  rw [show gM.view.readAt (Elt F) (Rect.unit (s := S512x512) ![0, 0] S512x512.size inb_S512x512_S512x512_0_0).toLoadRect (gFull m ρ) = gFull m ρ from
    Memref.readAt_unit_zero (Elt F) cc0_scratch0 hz2 _ _]
  iapply (wp_load 𝒱₀ (c : Thread nD τ) none Set.univ (m := oM) (Finset.subset_univ _)) $$ Hout; iintro Hout
  iapply (out_store m ρ c rfl) $$ Hout; iintro Hout
  rw [wp_ret]
  imodintro
  iapply Hk
  isplitl [HO Hg Hz]
  · unfold ghostOut
    isplitl [HO]; · iexact HO
    isplitl [Hg] <;> iassumption
  isplitl [Hx]; · iexact Hx
  isplitl [Hr]; · iexact Hr
  isplitl [Hw] <;> iassumption

end Body

end Cert.MoE

end
-- ==== Proof.Launch.lean ====
/-
# The launch

What every device starts from (the exchange's cells, positions, tokens and credits), how it is dealt, and the run of the
whole program on the mesh: each result buffer holds what the body left, the arguments are unchanged, every counter is zero.
-/
module

public import proofs.«01_k».proof.Proof.Body
public import proofs.«01_k».proof.Proof.Gen.KernelIdeal.Launch
public import proofs.«01_k».proof.Proof.Gen.KernelIdeal.Points
public import Idealize.ShloMosaic.Lib.Pipeline.CollectiveSegs

@[expose] public section

noncomputable section

namespace Cert.MoE

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

/-! ## What a device starts from -/

/-- The tokens device `c` pays with: its peers' barrier duties, its own sends' and its peers' receives'. -/
def payToks (c : Dev nD) : sProp 𝕄 :=
  iprop((bigSep (Finset.Ico 0 31) fun k => dutyTok ER (barCell (peer c k)) 0 k)
    ∗ (bigSep (Finset.Ico 0 31) fun k => dutyTok ER (sendCell c k) 0 0)
    ∗ bigSep (Finset.Ico 0 31) fun k => dutyTok ER (recvCell (peer c k) k) 0 0)

/-- Its positions at its own cells, and those tokens. -/
def linear (c : Dev nD) : sProp 𝕄 :=
  iprop((bigSep Finset.univ fun i : Fin 63 => atPos ER (kcell (c, i)) 0 ∅ 0) ∗ payToks c)

/-- Every cell's invariant and that its round `0` is reached. -/
def cellRecs (K : Dev nD × Fin 63 → ℕ) : sProp 𝕄 :=
  bigSep Finset.univ fun p => iprop(cellInv ER (ringRd m ρ) (K p) (kcell p) ∗ reached ER (kcell p) 0)

instance cellRecs_persistent (K : Dev nD × Fin 63 → ℕ) : BI.Persistent (cellRecs m ρ K) := by unfold cellRecs; infer_instance

/-- What the launch makes for device `c`. -/
def G' (c : Dev nD) : sProp 𝕄 := iprop(∃ K, cellRecs m ρ K ∗ linear c)

/-- What its body starts from: that, its credits, and the levels. -/
def start (c : Dev nD) : sProp 𝕄 :=
  iprop(G' m ρ c ∗ (cred (tallyAt (barCell c) () 31) ∗ bigSep (Finset.Ico 0 31) fun k => cred (tallyAt (recvCell c k) () N)) ∗ levAts L lv)

/-- The state before the body: what it starts from, and the scratch buffer at any contents. -/
def Φ₀ (c : Dev nD) : sProp 𝕄 := iprop(start m ρ c ∗ ∃ f, stgP (F := F) c cc0_scratch0 f)
/-- The state after it: the scratch buffer with every device's rows, every counter at zero. -/
def Φ₁ (c : Dev nD) : sProp 𝕄 := iprop(stgP c cc0_scratch0 (gFull m ρ) ∗ bigSep Finset.univ fun i : Fin 63 => semVal (kcell (c, i)) 0)

/-- The pipeline's proof data: the inputs stay, the result is the body's. -/
def dats (_ : Fin 1) (c : Dev nD) : Dat τ (Elt F) Unit ℕ UU ℕ cfg0 c where
  A w := (s₀ m ρ).mem ((cfg0.win w).arr.view.loc (c : Thread nD τ))
  after w _ := match w with
    | ⟨0, _⟩ => xstg m ρ c
    | ⟨1, _⟩ => rstg m ρ c
    | ⟨2, _⟩ => wstg m ρ c
    | ⟨3, _⟩ => outAt m ρ c
  Φ t := match t with
    | ⟨0, _⟩ => Φ₀ m ρ c
    | ⟨_ + 1, _⟩ => Φ₁ m ρ c
  q _ := fullShare
  owed t := match t with
    | ⟨0, _⟩ => O₀ c
    | ⟨_ + 1, _⟩ => 0

omit [FloatOps F] in
theorem bigSep_W (Φ : Fin cfg0.W → sProp 𝕄) : bigSep Finset.univ Φ = iprop(Φ (0 : Fin 4) ∗ Φ (1 : Fin 4) ∗ Φ (2 : Fin 4) ∗ Φ (3 : Fin 4)) := bigSep_W0 Φ

omit [FloatOps F] in
theorem owns_whole_eq (c : Dev nD) (b : Ref sig .tc) (X : b.ty.Contents (Elt F)) :
    (owns (Ix := Unit) (Name := ℕ) (U := UU) (Lvl := ℕ) (c : Thread nD τ) (Memref.whole b) fullShare X : sProp 𝕄)
      = iprop(∃ f : Buf (Elt F) (((c : Dev nD) : Thread nD τ).loc b), ⌜f = X⌝ ∗ (((c : Thread nD τ).loc b) ↦{fullShare} f)) := by
  unfold owns; simp only [Memref.view_whole, View.read_whole, View.set_whole]

/-! ## The body obligation -/

/-- The body's start from what a device starts from: its buffer in blocks, the tokens and credits by phase. -/
theorem body_start (c : Dev nD) :
    Φ₀ m ρ c ⊢ iprop(∃ K, recs m ρ K ∗ ghostIn c
      ∗ (bigSep (Finset.Ico 0 31) fun k => iprop(dutyTok ER (barCell (peer c k)) 0 k ∗ ∃ f, gPts (F := F) c (peer c k) fullShare f)) : sProp 𝕄) := by
  unfold Φ₀ start G' linear payToks
  iintro ⟨⟨⟨%K, HI, Hat, HtB, HtS, HtR⟩, ⟨HcB, HcR⟩, Hlev⟩, %f, Hscr⟩
  ihave Hb := (Entails.of_eq ((whole_blocks (F := F) c f).trans (bigSep_dev_peer c fun b => gPts (F := F) c b fullShare f))) $$ [Hscr]
  · unfold stgP; iexact Hscr
  icases Hb with ⟨Hown, Hb⟩
  ihave Ha := (Entails.of_eq (bigSep_kcells (F := F) c fun g => atPos ER g 0 ∅ 0)) $$ Hat
  icases Ha with ⟨HaB, HaS, HaR⟩
  iexists K
  isplitl [HI Hlev]
  · unfold recs; isplitl [HI]; · unfold cellRecs; iexact HI
    iexact Hlev
  isplitr [HtB Hb]
  · unfold ghostIn
    isplitl [Hown]; · iexists f; iexact Hown
    isplitl [HcB]; · iexact HcB
    isplitl [HaB]; · iexact HaB
    isplitl [HtS HtR]
    · rw [bigSep_sep']; isplitl [HtS] <;> iassumption
    isplitl [HaS]; · iexact HaS
    rw [bigSep_sep']; isplitl [HcR] <;> iassumption
  rw [bigSep_sep']
  isplitl [HtB]; · iexact HtB
  iapply (show (bigSep (Finset.Ico 0 31) fun k => gPts (F := F) c (peer c k) fullShare f)
    ⊢ (bigSep (Finset.Ico 0 31) fun k => iprop(∃ f, gPts (F := F) c (peer c k) fullShare f) : sProp 𝕄) from
      bigSep_mono fun k _ => by show _ ⊢ iprop(∃ f, gPts (F := F) c (peer c k) fullShare f); iintro H; iexists f; iexact H)
  iexact Hb

/-- A staging buffer that holds the contents `X`. -/
abbrev stgE (c : Dev nD) (b : Ref sig .tc) (X : b.ty.Contents (Elt F)) : sProp 𝕄 :=
  iprop(∃ f : Buf (Elt F) (((c : Dev nD) : Thread nD τ).loc b), ⌜f = X⌝ ∗ (((c : Thread nD τ).loc b) ↦{fullShare} f))

omit [FloatOps F] in
/-- It is the buffer held at `X`, -/
theorem stgE_open (c : Dev nD) (b : Ref sig .tc) (X : b.ty.Contents (Elt F)) : stgE c b X ⊢ (stgP c b X : sProp 𝕄) := by
  unfold stgE stgP; iintro ⟨%f, %h, H⟩; rw [← h]; iexact H
omit [FloatOps F] in
/-- and conversely. -/
theorem stgE_close (c : Dev nD) (b : Ref sig .tc) (X : b.ty.Contents (Elt F)) : (stgP c b X : sProp 𝕄) ⊢ stgE c b X := by
  unfold stgE stgP; iintro H; iexists X; isplitr; · ipureintro; rfl
  iexact H

set_option maxRecDepth 8000 in
/-- All that the body is given; -/
def bodyPre (c : Dev nD) : sProp 𝕄 :=
  iprop(Φ₀ m ρ c ∗ (dats m ρ 0 c).owesAt () t0_0.castSucc
    ∗ (∃ d, stgE c cc0_stg0_0 ((dats m ρ 0 c).before (0 : Fin 4) t0_0 d))
    ∗ (∃ d, stgE c cc0_stg1_0 ((dats m ρ 0 c).before (1 : Fin 4) t0_0 d))
    ∗ (∃ d, stgE c cc0_stg2_0 ((dats m ρ 0 c).before (2 : Fin 4) t0_0 d))
    ∗ (∃ d, stgE c cc0_stg3_0 ((dats m ρ 0 c).before (3 : Fin 4) t0_0 d)))
set_option maxRecDepth 8000 in
/-- all that it leaves. -/
def bodyPost (c : Dev nD) : sProp 𝕄 :=
  iprop(Φ₁ m ρ c ∗ (dats m ρ 0 c).owesAt () t0_0.succ ∗ stgE c cc0_stg0_0 (xstg m ρ c) ∗ stgE c cc0_stg1_0 (rstg m ρ c)
    ∗ stgE c cc0_stg2_0 (wstg m ρ c) ∗ stgE c cc0_stg3_0 (outAt m ρ c))

/-- The tokens' staging buffer holds the tokens before the body, -/
theorem before_0 (c : Dev nD) (d) : (dats m ρ 0 c).before (0 : Fin 4) t0_0 d = xstg m ρ c := by
  unfold Dat.before; rw [if_pos (fetch0_0 t0_0)]; rfl
/-- the routes' the routes, -/
theorem before_1 (c : Dev nD) (d) : (dats m ρ 0 c).before (1 : Fin 4) t0_0 d = rstg m ρ c := by
  unfold Dat.before; rw [if_pos (fetch0_1 t0_0)]; rfl
/-- the experts' the four experts. -/
theorem before_2 (c : Dev nD) (d) : (dats m ρ 0 c).before (2 : Fin 4) t0_0 d = wstg m ρ c := by
  unfold Dat.before; rw [if_pos (fetch0_2 t0_0)]; rfl

/-- What the body owes at its start, and at its end. -/
theorem owes_start (c : Dev nD) : (dats m ρ 0 c).owesAt () t0_0.castSucc ⊢ iprop(∃ W, owes (c : Thread nD τ) (OB c 0) W) := by
  unfold Dat.owesAt Pipeline.owesWithin
  iintro ⟨%W, %hW, HO⟩
  rw [show (dats m ρ 0 c).owed t0_0.castSucc = OB c 0 from rfl]
  iexists W; iexact HO
/-- At its end the body owes nothing. -/
theorem owes_end (c : Dev nD) : owe0 (F := F) c ⊢ (dats m ρ 0 c).owesAt () t0_0.succ := by
  unfold Dat.owesAt Pipeline.owesWithin owe0
  rw [show (dats m ρ 0 c).owed t0_0.succ = 0 from rfl]
  iintro ⟨%W, HO⟩
  iexists W; isplitr; · ipureintro; exact fun _ _ => Or.inl trivial
  iexact HO

/-- The body run from the pipeline's state before the point to its state after. -/
theorem body_run (c : Dev nD) : bodyPre m ρ c ⊢ wp frame (wpE (defs₀ (F := F)) 𝒱₀ c none) Set.univ
      (cc0_body (Memref.whole cc0_stg0_0) (Memref.isWhole_whole _) (Memref.whole cc0_stg1_0) (Memref.isWhole_whole _)
        (Memref.whole cc0_stg2_0) (Memref.isWhole_whole _) (Memref.whole cc0_stg3_0) (Memref.isWhole_whole _)
        (Memref.whole cc0_scratch0) (Memref.isWhole_whole _) cc0_scratch1 cc0_scratch2) (fun _ => bodyPost m ρ c) := by
  unfold bodyPre
  iintro ⟨HΦ, Ho, ⟨%d0, Hx⟩, ⟨%d1, Hr⟩, ⟨%d2, Hw⟩, ⟨%d3, Hout⟩⟩
  rw [before_0, before_1, before_2]
  ihave HΦ' := (body_start m ρ c) $$ HΦ
  icases HΦ' with ⟨%K, HI, Hg, Hs⟩
  ihave Ho' := (owes_start m ρ c) $$ Ho
  ihave Hx := (stgE_open (F := F) c cc0_stg0_0 (xstg m ρ c)) $$ Hx
  ihave Hr := (stgE_open (F := F) c cc0_stg1_0 (rstg m ρ c)) $$ Hr
  ihave Hw := (stgE_open (F := F) c cc0_stg2_0 (wstg m ρ c)) $$ Hw
  ihave Hout := (stgE_open (F := F) c cc0_stg3_0 _) $$ Hout
  iapply (sound_body m ρ K c fun _ => bodyPost m ρ c)
  isplitl [HI]; · iexact HI
  isplitl [Hs Ho']
  · unfold sigS; isplitl [Hs] <;> iassumption
  isplitl [Hg]; · iexact Hg
  isplitl [Hx]; · iexact Hx
  isplitl [Hr]; · iexact Hr
  isplitl [Hw]; · iexact Hw
  isplitl [Hout]; · iexists _; iexact Hout
  unfold ghostOut bodyPost Φ₁
  iintro ⟨⟨HO, Hg, Hz⟩, Hx, Hr, Hw, Hout⟩
  isplitl [Hg Hz]
  · isplitl [Hg] <;> iassumption
  isplitl [HO]; · iapply (owes_end m ρ c); iexact HO
  isplitl [Hx]; · iapply (stgE_close (F := F) c cc0_stg0_0 (xstg m ρ c)); iexact Hx
  isplitl [Hr]; · iapply (stgE_close (F := F) c cc0_stg1_0 (rstg m ρ c)); iexact Hr
  isplitl [Hw]; · iapply (stgE_close (F := F) c cc0_stg2_0 (wstg m ρ c)); iexact Hw
  iapply (stgE_close (F := F) c cc0_stg3_0 (outAt m ρ c)); iexact Hout

set_option maxRecDepth 8000 in
theorem body_obligation (c : Dev nD) : BodyObligation (dats (F := F) m ρ 0 c) (defs₀ (F := F)) 𝒱₀ () Set.univ := fun t => by
  rw [fin_N0 t]
  rw [bigSep_W, bigSep_W]
  simp only [owns_whole_eq]
  exact body_run m ρ c

end Cert.MoE

end
-- ==== Proof.Run.lean ====
/-
# The run of the kernel's program on the mesh

The exchange's cells, positions, tokens and credits dealt to the devices at launch, and the run: each result buffer holds
what the body left, the arguments are unchanged, every counter is zero.
-/
module

public import proofs.«01_k».proof.Proof.Launch

@[expose] public section

noncomputable section

namespace Cert.MoE

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

/-! ## The launch's ghost state -/

/-- A device's own semaphores beside the pipeline's: its sends' and its receives'. -/
abbrev osem : Fin 62 → SemLoc sig := fun k => .dma (Fin.ofNat 66 (4 + k.val))

set_option maxRecDepth 16384 in
theorem ownSemFacts : Pipeline.OwnSemFacts cfg0.spec osem where
  isScoped := by decide
  inj := fun a b h => by
    have h1 : (Fin.ofNat 66 (4 + a.val) : DmaSem sig) = Fin.ofNat 66 (4 + b.val) := by injection h
    have h' := congrArg Fin.val h1
    have ha := a.isLt; have hb := b.isLt
    apply Fin.ext
    change (4 + a.val) % 66 = (4 + b.val) % 66 at h'
    omega
  disj := by decide

/-- Every window's array is held whole. -/
theorem share_eq (c : Dev nD) (w : Fin cfg0.W) : (dats m ρ 0 c).share w = fullShare := by unfold Dat.share; split <;> rfl

/-- Different places are different cells. -/
theorem kcell_injective : Function.Injective kcell := by
  rintro ⟨c, k⟩ ⟨c', k'⟩ h
  have h1 : c = c' := congrArg (fun g : GSem nD τ sig => g.1.1) h
  subst h1
  have h2 : (if k.val = 0 then (.reg barS : SemLoc sig) else .dma (Fin.ofNat 66 (3 + k.val)))
      = if k'.val = 0 then .reg barS else .dma (Fin.ofNat 66 (3 + k'.val)) := congrArg Prod.snd h
  have hk := k.isLt; have hk' := k'.isLt
  have : k.val = k'.val := by
    split at h2 <;> split at h2
    · omega
    · cases h2
    · cases h2
    · have h3 : (Fin.ofNat 66 (3 + k.val) : DmaSem sig) = Fin.ofNat 66 (3 + k'.val) := by injection h2
      have h' := congrArg Fin.val h3
      change (3 + k.val) % 66 = (3 + k'.val) % 66 at h'
      omega
  rw [Fin.ext this]

/-- All cells of the exchange. -/
def ringCells : Finset (GSem nD τ sig) := Finset.univ.map ⟨kcell, kcell_injective⟩

/-- The duties as minted: (device, step, which kind) — its barrier's, its send's, its receive's. -/
def tokOf (x : Dev nD × Fin 31 × Fin 3) : GSem nD τ sig × ℕ × ℕ := match x.2.2 with
  | 0 => (barCell x.1, 0, x.2.1.val)
  | 1 => (sendCell x.1 x.2.1, 0, 0)
  | 2 => (recvCell x.1 x.2.1, 0, 0)

/-- Different steps complete on different semaphores, -/
theorem sendS_inj {k k' : ℕ} (hk : k < 31) (hk' : k' < 31) (h : sendS k = sendS k') : k = k' := by
  have h' := congrArg Fin.val h; rw [sendS_val hk, sendS_val hk'] at h'; omega
/-- arrive on different ones, -/
theorem recvS_inj {k k' : ℕ} (hk : k < 31) (hk' : k' < 31) (h : recvS k = recvS k') : k = k' := by
  have h' := congrArg Fin.val h; rw [recvS_val hk, recvS_val hk'] at h'; omega
/-- and no send's is a receive's. -/
theorem sendS_ne_recvS {k k' : ℕ} (hk : k < 31) (hk' : k' < 31) : sendS k ≠ recvS k' := fun h => by
  have h' := congrArg Fin.val h; rw [sendS_val hk, recvS_val hk'] at h'; omega

/-- Different duties have different tokens. -/
theorem tokOf_injective : Function.Injective tokOf := by
  rintro ⟨c, k, j⟩ ⟨c', k', j'⟩ h
  have h1 : c = c' := by
    have := congrArg (fun x : GSem nD τ sig × ℕ × ℕ => x.1.1.1) h
    fin_cases j <;> fin_cases j' <;> exact this
  subst h1
  have hs := congrArg (fun x : GSem nD τ sig × ℕ × ℕ => x.1.2) h
  have hd := congrArg (fun x : GSem nD τ sig × ℕ × ℕ => x.2.2) h
  fin_cases j <;> fin_cases j'
  · rw [Fin.ext (show k.val = k'.val from hd)]
  · exact absurd hs (by intro h; cases h)
  · exact absurd hs (by intro h; cases h)
  · exact absurd hs (by intro h; cases h)
  · rw [Fin.ext (sendS_inj k.isLt k'.isLt (SemLoc.dma.inj hs))]
  · exact absurd (SemLoc.dma.inj hs) (sendS_ne_recvS k.isLt k'.isLt)
  · exact absurd hs (by intro h; cases h)
  · exact absurd (SemLoc.dma.inj hs).symm (sendS_ne_recvS k'.isLt k.isLt)
  · rw [Fin.ext (recvS_inj k.isLt k'.isLt (SemLoc.dma.inj hs))]

/-- All tokens of the exchange. -/
def ringToks : Finset (GSem nD τ sig × ℕ × ℕ) := Finset.univ.map ⟨tokOf, tokOf_injective⟩

/-- The ghost state that the launch mints. -/
def u₀ : UU :=
  (initOf (Pipeline.cells cfgs cellOf_inj) (Pipeline.launchToks cfgs cellOf_inj), initOf ringCells ringToks)

omit [FloatOps F] in
theorem bigSep_fin31 (Φ : ℕ → sProp 𝕄) : bigSep (Finset.Ico 0 31) Φ = bigSep Finset.univ fun k : Fin 31 => Φ k.val := by
  have hu : Finset.Ico 0 31 = (Finset.univ : Finset (Fin 31)).image Fin.val := by decide
  rw [hu, bigSep_image' fun a _ b _ h => Fin.ext h]

omit [FloatOps F] in
theorem bigSep_fin3 (Φ : Fin 3 → sProp 𝕄) : bigSep Finset.univ Φ = iprop(Φ 0 ∗ Φ 1 ∗ Φ 2) := bigSep_univ_eq_bigSepL [0, 1, 2] (by decide) (by decide) Φ

/-- The duty tokens of device `c`'s own cells. -/
def toks (c : Dev nD) : sProp 𝕄 :=
  iprop((bigSep Finset.univ fun k : Fin 31 => dutyTok ER (barCell c) 0 k.val)
    ∗ (bigSep Finset.univ fun k : Fin 31 => dutyTok ER (sendCell c k) 0 0)
    ∗ bigSep Finset.univ fun k : Fin 31 => dutyTok ER (recvCell c k) 0 0)

/-- What the launch element deals device `c`. -/
def G (c : Dev nD) : sProp 𝕄 :=
  iprop((bigSep Finset.univ fun i : Fin 63 => roundState ER (ringRd m ρ) (kcell (c, i)) 0)
    ∗ (bigSep Finset.univ fun i : Fin 63 => reached ER (kcell (c, i)) 0)
    ∗ (bigSep Finset.univ fun i : Fin 63 => atPos ER (kcell (c, i)) 0 ∅ 0) ∗ toks c)

omit [FloatOps F] in
theorem bigSep_cellsOf (Φ : GSem nD τ sig → sProp 𝕄) :
    bigSep ringCells Φ = bigSep Finset.univ fun c : Dev nD => bigSep Finset.univ fun i : Fin 63 => Φ (kcell (c, i)) := by
  unfold ringCells; rw [bigSep_map, bigSep_univ_prod]; rfl

omit [FloatOps F] in
theorem bigSep_toksOf : bigSep ringToks (fun x => (dutyTok ER x.1 x.2.1 x.2.2 : sProp 𝕄)) = bigSep Finset.univ fun c : Dev nD => toks c := by
  unfold ringToks; rw [bigSep_map, bigSep_univ_prod]
  refine bigSep_congr fun c _ => ?_
  unfold toks
  rw [bigSep_univ_prod, ← bigSep_sep', ← bigSep_sep']
  exact bigSep_congr fun k _ => by rw [bigSep_fin3]; rfl

/-- The exchange's part of it gives every device its cells and tokens. -/
theorem fund_ring : BI.own (ER (initOf ringCells ringToks)) ⊢ (|==> bigSep Finset.univ (G m ρ) : sProp 𝕄) := by
  iintro HX
  imod (Rounds.fund ER (ringRd m ρ) ringCells ringToks) $$ HX with ⟨Hst, Hr, Hat, Htok⟩
  imodintro
  ihave Hst' := (Entails.of_eq (bigSep_cellsOf fun g => roundState ER (ringRd m ρ) g 0)) $$ Hst
  ihave Hat' := (Entails.of_eq (bigSep_cellsOf (F := F) fun g => atPos ER g 0 ∅ 0)) $$ Hat
  ihave Hr' := (Entails.of_eq (bigSep_cellsOf (F := F) fun g => reached ER g 0)) $$ Hr
  ihave Htok' := (Entails.of_eq (bigSep_toksOf (F := F))) $$ Htok
  unfold G; simp only [bigSep_sep']
  isplitl [Hst']; · iexact Hst'
  isplitl [Hr']; · iexact Hr'
  isplitl [Hat'] <;> iassumption

/-! ## The semaphores at launch -/

omit [FloatOps F] in
theorem unscopedSems0_eq (c : Dev nD) : (unscopedSems0 c : sProp 𝕄) = semVal (barCell c) 0 := by
  unfold unscopedSems0; rw [bigSep_eq_bigSepL_of_eq [SemLoc.reg barS] (by decide) (by decide)]; rfl

/-- A device's cells after the barrier's are those of the kernel's own semaphores. -/
theorem kcell_succ (c : Dev nD) (k : Fin 62) : kcell (c, k.succ) = ((c : Thread nD τ), osem k) := by
  unfold kcell
  rw [if_neg (by show k.val + 1 ≠ 0; omega)]
  have h : ((c, k.succ) : Dev nD × Fin 63).2.val + 3 = 4 + k.val := by show k.val + 1 + 3 = _; omega
  rw [Nat.add_comm 3, h]

omit [FloatOps F] in
/-- A device's barrier counter and its own semaphores' are its cells' counters. -/
theorem sems_eq (c : Dev nD) :
    (bigSep Finset.univ fun i : Fin 63 => semVal (kcell (c, i)) 0 : sProp 𝕄)
      = iprop(unscopedSems0 c ∗ Pipeline.ownSems0 (Ix := Unit) (Name := ℕ) (U := UU) (Lvl := ℕ) (Val := Elt F) (τ := τ) osem c) := by
  have hu : (Finset.univ : Finset (Fin 63)) = insert 0 (Finset.univ.map (Fin.succEmb 62)) := by decide
  rw [unscopedSems0_eq]
  unfold Pipeline.ownSems0
  rw [hu, bigSep_insert (by decide), bigSep_map]
  exact congrArg₂ (fun a b => iprop(a ∗ b)) rfl (bigSep_congr fun k _ => congrArg (fun g => (semVal g 0 : sProp 𝕄)) (kcell_succ c k))

/-- One device's cells allocated. -/
theorem core_alloc (c : Dev nD) :
    iprop(Pipeline.ownSems0 (Ix := Unit) (Name := ℕ) (U := UU) (Lvl := ℕ) (Val := Elt F) (τ := τ) osem c ∗ unscopedSems0 c ∗ G m ρ c)
      ⊢ |={Set.univ}=> iprop((bigSep Finset.univ fun i => iprop(∃ κ : ℕ, cellInv ER (ringRd m ρ) κ (kcell (c, i))))
          ∗ (bigSep Finset.univ fun i : Fin 63 => reached ER (kcell (c, i)) 0)
          ∗ (bigSep Finset.univ fun i : Fin 63 => atPos ER (kcell (c, i)) 0 ∅ 0) ∗ toks c) := by
  unfold G
  iintro ⟨Hos, Hus, Hst, Hr, Hat, Htok⟩
  ihave Hv := (Entails.of_eq (sems_eq (F := F) c).symm) $$ [Hos Hus]
  · isplitl [Hus] <;> iassumption
  imod (show iprop((bigSep Finset.univ fun i : Fin 63 => semVal (kcell (c, i)) 0) ∗ bigSep Finset.univ fun i : Fin 63 => roundState ER (ringRd m ρ) (kcell (c, i)) 0)
      ⊢ (|={Set.univ}=> bigSep Finset.univ fun i => iprop(∃ κ : ℕ, cellInv ER (ringRd m ρ) κ (kcell (c, i))) : sProp 𝕄) from by
        rw [← bigSep_sep']
        exact (bigSep_mono fun i _ => (Rounds.body_intro ER (ringRd m ρ) (kcell (c, i))).trans inv_alloc).trans (bigSep_fupd _ _)) $$ [Hv Hst] with Hinv
  · isplitl [Hv] <;> iassumption
  imodintro
  isplitl [Hinv]; · iexact Hinv
  isplitl [Hr]; · iexact Hr
  isplitl [Hat] <;> iassumption

/-! ## The tokens dealt -/

omit [FloatOps F] in
/-- A family over devices and steps, moved along each step's permutation of the devices. -/
theorem deal (Φ : Dev nD → ℕ → sProp 𝕄) :
    (bigSep Finset.univ fun c : Dev nD => bigSep Finset.univ fun k : Fin 31 => Φ c k.val)
      = bigSep Finset.univ fun c : Dev nD => bigSep (Finset.Ico 0 31) fun k => Φ (peer c k) k := by
  rw [bigSep_univ_comm, bigSep_congr (s := Finset.univ) (Φ := fun k : Fin 31 => bigSep Finset.univ fun c : Dev nD => Φ c k.val)
    (Ψ := fun k : Fin 31 => bigSep Finset.univ fun c : Dev nD => Φ (peer c k.val) k.val)
    (fun k _ => bigSep_univ_equiv (rot k.val k.isLt) fun c => Φ c k.val), bigSep_univ_comm]
  exact bigSep_congr fun c _ => (bigSep_fin31 fun k => Φ (peer c k) k).symm

omit [FloatOps F] in
theorem toks_around : (bigSep Finset.univ fun c : Dev nD => (toks c : sProp 𝕄)) = bigSep Finset.univ fun c : Dev nD => payToks c := by
  unfold toks payToks
  rw [bigSep_sep', bigSep_sep', bigSep_sep', bigSep_sep', deal (F := F) fun c k => dutyTok ER (barCell c) 0 k,
    deal (F := F) fun c k => dutyTok ER (recvCell c k) 0 0]
  exact congrArg₂ (fun a b => iprop(a ∗ b)) rfl (congrArg₂ (fun a b => iprop(a ∗ b))
    (bigSep_congr fun c _ => (bigSep_fin31 fun k => dutyTok ER (sendCell c k) 0 0).symm) rfl)

omit [FloatOps F] in
theorem deal_persistent {I : Type} [DecidableEq I] {S : Finset I} {R : sProp 𝕄} [BI.Persistent R] {Φ Ψ : I → sProp 𝕄}
    (h : ∀ i ∈ S, iprop(R ∗ Φ i) ⊢ Ψ i) : iprop(R ∗ bigSep S Φ) ⊢ bigSep S Ψ :=
  (sep_mono_left (BI.bigSep_of_persistent S R)).trans (by rw [← bigSep_sep']; exact bigSep_mono h)

/-- The cells' invariants, allocated device by device, are known to all devices, and each device keeps its own tokens. -/
theorem regroup :
    (bigSep Finset.univ fun c : Dev nD => iprop((bigSep Finset.univ fun i => iprop(∃ κ : ℕ, cellInv ER (ringRd m ρ) κ (kcell (c, i))))
          ∗ (bigSep Finset.univ fun i : Fin 63 => reached ER (kcell (c, i)) 0)
          ∗ (bigSep Finset.univ fun i : Fin 63 => atPos ER (kcell (c, i)) 0 ∅ 0) ∗ toks c) : sProp 𝕄)
      ⊢ bigSep Finset.univ (G' m ρ) := by
  rw [bigSep_sep', bigSep_sep', bigSep_sep', ← bigSep_univ_prod (fun p : Dev nD × Fin 63 => iprop(∃ κ : ℕ, cellInv ER (ringRd m ρ) κ (kcell p))),
    ← bigSep_univ_prod (fun p : Dev nD × Fin 63 => (reached ER (kcell p) 0 : sProp 𝕄)), toks_around]
  iintro ⟨HI, #HR, Hat, Htok⟩
  ihave HK := (BI.bigSep_exists_pi Finset.univ (fun (p : Dev nD × Fin 63) (κ : ℕ) => (cellInv ER (ringRd m ρ) κ (kcell p) : sProp 𝕄))) $$ HI
  icases HK with ⟨%K, #HI⟩
  iapply (deal_persistent (R := cellRecs m ρ K) (Φ := linear) fun c _ => show iprop(cellRecs m ρ K ∗ linear c) ⊢ G' m ρ c from by
    unfold G'; iintro ⟨H1, H2⟩; iexists K; isplitl [H1] <;> iassumption)
  isplitr
  · unfold cellRecs; rw [bigSep_sep']; isplitl; · iexact HI
    iexact HR
  · unfold linear; rw [bigSep_sep']; isplitl [Hat] <;> iassumption

/-- The global step: own and unscoped semaphores of every device at once. -/
theorem glob : (bigSep Finset.univ fun c => iprop(Pipeline.ownSems0 (Ix := Unit) (Name := ℕ) (U := UU) (Lvl := ℕ) (Val := Elt F) (τ := τ) osem c ∗ unscopedSems0 c ∗ G m ρ c) : sProp 𝕄)
    ⊢ |={Set.univ}=> bigSep Finset.univ (G' m ρ) :=
  ((bigSep_mono fun c _ => core_alloc m ρ c).trans (bigSep_fupd _ _)).trans (BI.fupd_mono (regroup m ρ))

/-! ## The launch credit -/

/-- The receive credits owed to a cell, as a sum over the steps. -/
theorem OR_apply (d : Dev nD) (n : ℕ) (g : GSem nD τ sig) :
    OR d n g () = ∑ k ∈ Finset.Ico n 31, if g = recvCell (peer d k) k then N else 0 := by
  unfold OR
  rw [Finset.sum_apply, Finsupp.finset_sum_apply]
  refine Finset.sum_congr rfl fun k _ => ?_
  rw [tallyAt_apply]
  by_cases h : g = recvCell (peer d k) k
  · rw [if_pos ⟨h, rfl⟩, if_pos h]
  · rw [if_neg fun h' => h h'.1, if_neg h]

/-- All that is owed to a cell, as a sum over the steps. -/
theorem O₀_apply (d : Dev nD) (g : GSem nD τ sig) :
    O₀ d g () = (∑ k ∈ Finset.Ico 0 31, if g = recvCell (peer d k) k then N else 0) + ∑ k ∈ Finset.Ico 0 31, if g = barCell (peer d k) then 1 else 0 := by
  unfold O₀ OB
  rw [Pi.add_apply, Finsupp.add_apply, OR_apply, Finset.sum_apply, Finsupp.finset_sum_apply]
  refine congrArg (_ + ·) (Finset.sum_congr rfl fun k _ => ?_)
  rw [tallyAt_apply]
  by_cases h : g = barCell (peer d k)
  · rw [if_pos ⟨h, rfl⟩, if_pos h]
  · rw [if_neg fun h' => h h'.1, if_neg h]

/-- A barrier cell is not a receive cell; -/
theorem at_bar (n : ℕ) (c d : Dev nD) :
    ((∑ k ∈ Finset.Ico 0 31, if barCell c = recvCell (peer d k) k then n else 0) + ∑ k ∈ Finset.Ico 0 31, if barCell c = barCell (peer d k) then 1 else 0)
      = ∑ k ∈ Finset.Ico 0 31, if c = peer d k then 1 else 0 := by
  have h0 : (∑ k ∈ Finset.Ico 0 31, if barCell c = recvCell (peer d k) k then n else 0) = 0 :=
    Finset.sum_eq_zero fun k _ => if_neg fun h => by cases congrArg Prod.snd h
  rw [h0, Nat.zero_add]
  exact Finset.sum_congr rfl fun k _ => if_congr ⟨fun h => congrArg (fun g : GSem nD τ sig => g.1.1) h, fun h => by rw [← h]⟩ rfl rfl

/-- a receive cell no barrier cell, and one step's only. -/
theorem at_recv (n : ℕ) (c d : Dev nD) {k : ℕ} (hk : k < 31) :
    ((∑ k' ∈ Finset.Ico 0 31, if recvCell c k = recvCell (peer d k') k' then n else 0) + ∑ k' ∈ Finset.Ico 0 31, if recvCell c k = barCell (peer d k') then 1 else 0)
      = if c = peer d k then n else 0 := by
  have h0 : (∑ k' ∈ Finset.Ico 0 31, if recvCell c k = barCell (peer d k') then 1 else 0) = 0 :=
    Finset.sum_eq_zero fun k' _ => if_neg fun h => by cases congrArg Prod.snd h
  rw [h0, Nat.add_zero, Finset.sum_eq_single k]
  · exact if_congr ⟨fun h => congrArg (fun g : GSem nD τ sig => g.1.1) h, fun h => by rw [← h]⟩ rfl rfl
  · exact fun k' hk' hne => if_neg fun h => hne (recvS_inj hk (Finset.mem_Ico.mp hk').2 (SemLoc.dma.inj (congrArg Prod.snd h))).symm
  · exact fun h => absurd (Finset.mem_Ico.mpr ⟨Nat.zero_le _, hk⟩) h

/-- One device addresses `c` at step `k`. -/
theorem sum_peer (n : ℕ) (c : Dev nD) {k : ℕ} (hk : k < 31) : (∑ d : Dev nD, if c = peer d k then n else 0) = n := by
  rw [Finset.sum_eq_single (back c k)]
  · rw [if_pos (peer_back c hk).symm]
  · exact fun d _ hd => if_neg fun h => hd (by rw [h, back_peer d hk])
  · exact fun h => absurd (Finset.mem_univ _) h

/-- The devices together owe a barrier's cell 31 units, -/
theorem sum_bar (c : Dev nD) : ∑ d : Dev nD, O₀ d (barCell c) () = 31 := by
  rw [Finset.sum_congr rfl fun d _ => (O₀_apply d (barCell c)).trans (at_bar _ c d), Finset.sum_comm,
    Finset.sum_congr rfl fun k hk => sum_peer 1 c (Finset.mem_Ico.mp hk).2]
  decide

/-- and a receive's cell one copy's credit. -/
theorem sum_recv (c : Dev nD) {k : ℕ} (hk : k < 31) : ∑ d : Dev nD, O₀ d (recvCell c k) () = N :=
  (Finset.sum_congr rfl fun d _ => (O₀_apply d (recvCell c k)).trans (at_recv _ c d hk)).trans (sum_peer _ c hk)

/-- So a barrier's cell starts with credit 31, -/
theorem launch_bar (c : Dev nD) :
    tallyOn (barCell c) (launchCredit (Pipeline.owing O₀) 0 (barCell c)) = (tallyAt (barCell c) () 31 : CellTallies nD τ sig Unit) := by
  unfold tallyAt; refine congrArg _ (Finsupp.ext fun u => ?_); cases u
  rw [Pipeline.launchCredit_owing, Finsupp.single_eq_same, sum_bar]

/-- and a receive's with one copy's. -/
theorem launch_recv (c : Dev nD) {k : ℕ} (hk : k < 31) :
    tallyOn (recvCell c k) (launchCredit (Pipeline.owing O₀) 0 (recvCell c k)) = (tallyAt (recvCell c k) () N : CellTallies nD τ sig Unit) := by
  unfold tallyAt; refine congrArg _ (Finsupp.ext fun u => ?_); cases u
  rw [Pipeline.launchCredit_owing, Finsupp.single_eq_same, sum_recv c hk]

omit [FloatOps F] in
theorem creds (c : Dev nD) :
    (Pipeline.launchCred O₀ c : sProp 𝕄)
      ⊢ iprop(cred (tallyAt (barCell c) () 31) ∗ bigSep (Finset.Ico 0 31) fun k => cred (tallyAt (recvCell c k) () N)) := by
  unfold Pipeline.launchCred
  have hinj : Set.InjOn (fun k : ℕ => (SemLoc.dma (recvS k) : SemLoc sig)) (Finset.Ico 0 31 : Finset ℕ) := fun a ha b hb h =>
    recvS_inj (Finset.mem_Ico.mp (Finset.mem_coe.mp ha)).2 (Finset.mem_Ico.mp (Finset.mem_coe.mp hb)).2 (SemLoc.dma.inj h)
  refine (bigSep_subset (Finset.subset_univ (insert (SemLoc.reg barS) ((Finset.Ico 0 31).image fun k => SemLoc.dma (recvS k))))).trans ?_
  rw [bigSep_insert (fun h => by obtain ⟨k, -, e⟩ := Finset.mem_image.mp h; cases e), bigSep_image' hinj, launch_bar]
  rw [bigSep_congr (s := Finset.Ico 0 31) (Ψ := fun k => (cred (tallyAt (recvCell c k) () N) : sProp 𝕄))
    fun k hk => congrArg (fun t => (cred t : sProp 𝕄)) (launch_recv c (Finset.mem_Ico.mp hk).2)]
  exact Idealize.SL.BI.Entails.refl _

/-! ## The theorem's side conditions -/

/-- The argument no window stages, held whole throughout. -/
def Zp (c : Dev nD) : sProp 𝕄 := ((c : Thread nD τ).loc main_arg1) ↦{fullShare} m ((c : Thread nD τ).loc main_arg1)

/-- What the launch gives a device is what its body starts from, beside the argument that no window stages. -/
theorem start_intro (c : Dev nD) :
    iprop(Pipeline.unscopedRestP Pipeline.Prefetch.none cfg0.spec c (fun b => m ((c : Thread nD τ).loc b)) ∗ levAts L lv
        ∗ Pipeline.launchCred O₀ c ∗ prngReg c (ρ c) ∗ G' m ρ c)
      ⊢ |={Set.univ}=> iprop(start m ρ c ∗ Zp m c) := by
  rw [Pipeline.unscopedRestP_none, unscopedRest0_eq]
  iintro ⟨Hz, Hlev, Hcr, -, HG⟩
  ihave Hc := (creds (F := F) c) $$ Hcr
  imodintro
  unfold start Zp
  isplitr [Hz]
  · isplitl [HG]; · iexact HG
    isplitl [Hc]; · iexact Hc
    iexact Hlev
  · iexact Hz

/-- That and the scratch buffer are the state before the body. -/
theorem phi0_intro (c : Dev nD) :
    iprop(start m ρ c ∗ Pipeline.prefHeld Pipeline.Prefetch.none c (fun _ => fullShare.right) (fun k => k.elim0) ∗ Pipeline.scopedRest cfg0.spec c)
      ⊢ (dats m ρ 0 c).Φ 0 := by
  rw [show (dats m ρ 0 c).Φ 0 = Φ₀ m ρ c from rfl, scopedRest0_eq]
  unfold Φ₀ stgP
  iintro ⟨Hs, -, Hr⟩
  isplitl [Hs] <;> iassumption

/-- The state after the body returns the semaphores at zero and the scratch buffer. -/
theorem phi1_exit (c : Dev nD) :
    (dats m ρ 0 c).Φ (Fin.last cfg0.N) ⊢ iprop(unscopedSems0 c ∗ Pipeline.ownSems0 osem c ∗ Pipeline.scopedRest cfg0.spec c) := by
  rw [show (dats m ρ 0 c).Φ (Fin.last cfg0.N) = Φ₁ m ρ c from rfl, scopedRest0_eq]
  unfold Φ₁ stgP
  iintro ⟨Hr, Hz⟩
  ihave Hz' := (Entails.of_eq (sems_eq (F := F) c)) $$ Hz
  icases Hz' with ⟨Hu, Ho⟩
  isplitl [Hu]; · iexact Hu
  isplitl [Ho]; · iexact Ho
  iexists (gFull m ρ); iexact Hr

/-- The staging's waits are allowed by the levels. -/
theorem waits (c : Dev nD) : (levAts L lv : sProp 𝕄) ⊢ Pipeline.cellsWaits cfgs (dats m ρ) () 0 c :=
  Pipeline.cellsWaits_intro cfgs (dats m ρ) () 0 c fun w s t =>
    mayWait_stage c _ (by fin_cases w <;> fin_cases s <;> decide) _ (by
      rcases t with ⟨_ | _, ht⟩
      · exact Or.inl rfl
      · exact Or.inr rfl)

/-! ## The run -/

/-- What a window's array holds at the end. -/
def finalA (c : Dev nD) (w : Fin cfg0.W) : Buf (Elt F) ((cfg0.win w).arr.view.loc (c : Thread nD τ)) := (dats m ρ 0 c).arrAt w cfg0.N

/-- What the run leaves on every device: the windows' arrays, and the argument no window stages. -/
def QC : PUnit × MemSt nD τ sig (Elt F) → Prop := fun r =>
  ∀ c : Dev nD, (∀ w : Fin cfg0.W, r.2.mem ((cfg0.win w).arr.view.loc (c : Thread nD τ)) = finalA m ρ c w)
    ∧ r.2.mem ((c : Thread nD τ).loc main_arg1) = m ((c : Thread nD τ).loc main_arg1)

/-- At the end the argument that no window stages is as it was. -/
theorem exit_read (c : Dev nD) (s' : Phys nD τ sig (Elt F)) : iprop(unscopedSems0 c ∗ Zp m c ∗ SI s')
    ⊢ (|={Set.univ}=> iprop(⌜s'.mem.mem ((c : Thread nD τ).loc main_arg1) = m ((c : Thread nD τ).loc main_arg1)
        ∧ ∀ sm : SemLoc sig, sm.isScoped .tc = false → s'.mem.sem ((c.tc : Thread nD τ), sm) = 0⌝ ∗ SI s') : sProp 𝕄) := by
  have hz : iprop(Zp m c ∗ SI s') ⊢ (iprop(⌜∀ i ∈ ({()} : Finset Unit), s'.mem.mem ((c : Thread nD τ).loc main_arg1) = m ((c : Thread nD τ).loc main_arg1)⌝ ∗ SI s') : sProp 𝕄) := by
    have h := pointsTo_read_all (Ix := Unit) (Name := ℕ) (U := UU) (Lvl := ℕ) ({()} : Finset Unit) (fun _ => (c : Thread nD τ).loc main_arg1) (fun _ => m ((c : Thread nD τ).loc main_arg1)) s'
    rw [bigSep_singleton] at h
    exact h
  iintro ⟨Hu, Hz, HSI⟩
  ihave H := hz $$ [Hz HSI]
  · isplitl [Hz] <;> iassumption
  icases H with ⟨%h1, HSI⟩
  imod (Pipeline.unscopedSems0_read (X := unscopedSems0 c) (c := c) fupd_intro s') $$ [Hu HSI] with ⟨%h2, HSI⟩
  · isplitl [Hu] <;> iassumption
  imodintro
  isplitr; · ipureintro; exact ⟨h1 () (Finset.mem_singleton_self _), h2⟩
  iexact HSI

set_option maxRecDepth 8000 in
/-- On the mesh of 32 devices, for any float values, from any memory with zero counters, every weakly fair execution of the
    program terminates; every final state has each device's arrays at the computed contents and every counter at zero. -/
theorem run_main : θ_run defs (onTc (τ := τ) (main (F := F))) (s₀ m ρ) (fun r => QC m ρ r ∧ r.2.sem = fun _ => 0) :=
  Pipeline.θ_run_region_owing_glob_pf (fun p => (cfgs p).toPCfg) (fun p => (cfgs p).toPCfg_adm) (dats m ρ) () cellOf_inj (0 : Fin 1)
    winFacts0.to₀ ownSemFacts (Pipeline.PreFacts.none _) EP defs₀ 𝒱₀ m ρ main
    (hmain := fun _ => rfl)
    (hbody := body_obligation m ρ) (hne := block_pos0) (harr := arr_whole0) (hstage := stage_whole0) (hshare := share_eq m ρ)
    (hdistinct := winFacts0.arr_inj)
    (O₀ := O₀) (howed₀ := fun _ => rfl) (howedN := fun _ => rfl)
    (L := L) (lv := lv) (hL := L_of_ne) (hwaits := waits m ρ)
    (G := G m ρ) (G' := G' m ρ) (u₀ := u₀)
    (hu₀ := by
      unfold u₀
      iintro Hu
      ihave H := (ownU_pair _ _) $$ Hu
      icases H with ⟨HP, HX⟩
      imod (fund_ring m ρ) $$ HX with HG
      imodintro
      isplitl [HP] <;> iassumption)
    (hglob := glob m ρ)
    (hA := fun _ _ => rfl) (hpf := fun _ k => k.elim0)
    (X := start m ρ) (Y := fun c => unscopedSems0 c) (Z := Zp m)
    (hX := start_intro m ρ) (hin := phi0_intro m ρ) (hout := phi1_exit m ρ)
    (QY := fun c s => s.mem ((c : Thread nD τ).loc main_arg1) = m ((c : Thread nD τ).loc main_arg1)
      ∧ ∀ sm : SemLoc sig, sm.isScoped .tc = false → s.sem ((c.tc : Thread nD τ), sm) = 0)
    (hY := exit_read m)
    (hQ := fun _ h hs => ⟨fun c => ⟨fun w => (h c).1 w, (h c).2.2.1⟩, sem_eq_zero hs fun c => (h c).2.2.2⟩)

end Cert.MoE

end
-- ==== Proof.Counting.lean ====
/-
# Counting the earlier tokens of one route

Tokens are numbered 0 to 511 and each has a route. `seen g k e` is how many of the first `k` tokens have route `e`;
a token's rank is how many tokens before it have its route.
-/
module

public import Mathlib.Data.Fintype.Card
public import Mathlib.Algebra.BigOperators.Fin
public import Mathlib.Data.BitVec

@[expose] public section

namespace Cert.MoE

/-- How many of the first `k` tokens have route `e`. -/
def seen (g : Fin 512 → ℕ) (k e : ℕ) : ℕ := (Finset.univ.filter fun i : Fin 512 => i.val < k ∧ g i = e).card

/-- Of no tokens none has a route. -/
theorem seen_zero (g : Fin 512 → ℕ) (e : ℕ) : seen g 0 e = 0 := by
  unfold seen
  rw [Finset.card_eq_zero, Finset.filter_eq_empty_iff]
  intro i _ h
  exact absurd h.1 (Nat.not_lt_zero _)

/-- One more token adds one exactly at its own route. -/
theorem seen_succ (g : Fin 512 → ℕ) (k : Fin 512) (e : ℕ) : seen g (k.val + 1) e = seen g k.val e + if g k = e then 1 else 0 := by
  unfold seen
  by_cases h : g k = e
  · rw [if_pos h]
    have : (Finset.univ.filter fun i : Fin 512 => i.val < k.val + 1 ∧ g i = e)
        = insert k (Finset.univ.filter fun i : Fin 512 => i.val < k.val ∧ g i = e) := by
      ext i
      simp only [Finset.mem_filter, Finset.mem_univ, true_and, Finset.mem_insert]
      constructor
      · rintro ⟨a, b⟩
        by_cases hik : i = k
        · exact .inl hik
        · exact .inr ⟨by have := fun h => hik (Fin.ext h); omega, b⟩
      · rintro (rfl | ⟨a, b⟩)
        · exact ⟨by omega, h⟩
        · exact ⟨by omega, b⟩
    rw [this, Finset.card_insert_of_notMem]
    intro hm
    exact absurd (Finset.mem_filter.1 hm).2.1 (lt_irrefl _)
  · rw [if_neg h]
    refine Eq.trans (congrArg Finset.card (Finset.ext fun i => ?_)) (Nat.add_zero _).symm
    simp only [Finset.mem_filter, Finset.mem_univ, true_and]
    constructor
    · rintro ⟨a, b⟩
      refine ⟨?_, b⟩
      have : i ≠ k := fun hik => h (hik ▸ b)
      have := fun h => this (Fin.ext h)
      omega
    · rintro ⟨a, b⟩
      exact ⟨by omega, b⟩

/-- No more than all tokens have a route. -/
theorem seen_le (g : Fin 512 → ℕ) (k e : ℕ) : seen g k e ≤ 512 :=
  (Finset.card_le_univ _).trans (by rw [Fintype.card_fin])

/-- Of two tokens with one route the later has the greater rank. -/
theorem seen_lt (g : Fin 512 → ℕ) (i j : Fin 512) (hij : i.val < j.val) (h : g i = g j) : seen g i.val (g i) < seen g j.val (g j) := by
  unfold seen
  refine Finset.card_lt_card ⟨?_, ?_⟩
  · intro a ha
    simp only [Finset.mem_filter, Finset.mem_univ, true_and] at ha ⊢
    exact ⟨by omega, by rw [← h]; exact ha.2⟩
  · intro hs
    have hi := hs (Finset.mem_filter.2 ⟨Finset.mem_univ i, hij, h⟩)
    exact absurd (Finset.mem_filter.1 hi).2.1 (lt_irrefl _)

/-- A token is told apart by its route and its rank. -/
theorem seen_inj (g : Fin 512 → ℕ) (i j : Fin 512) (h : g i = g j) (hs : seen g i.val (g i) = seen g j.val (g j)) : i = j := by
  rcases lt_trichotomy i.val j.val with hl | he | hl
  · exact absurd hs (seen_lt g i j hl h).ne
  · exact Fin.ext he
  · exact absurd hs (seen_lt g j i hl h.symm).ne'

end Cert.MoE
-- ==== Proof.Rank.lean ====
/-
# The kernel's rank, keep flag and slot of a token

On the model of real numbers: each token's rank as the kernel computes it is the number of earlier tokens with its
route, its keep flag says that this is below three, and its slot is sixteen for each device before the route's, three
for each expert before the route's on that device, and the rank.
-/
module

public import proofs.«01_k».proof.Proof.Common
public import proofs.«01_k».proof.Proof.Counting
public import Idealize.ShloMosaic.Lib.Pointwise
public import Idealize.ShloMosaic.Lib.WordCmp

@[expose] public section
noncomputable section

namespace Cert.MoE

open Cert.KernelIdeal Cert.KernelIdeal.Gen
open Idealize.ShloMosaic Idealize.ShloMosaic.TcCoe
open scoped BigOperators

/-- The route of each token, as a number. -/
def routeAt (r : IVec S512x1 32) (t : Fin 512) : ℕ := (r (ix2 t (0 : Fin 1))).toNat

/-- The rank of each token: how many earlier tokens have its route. -/
def rankAt (r : IVec S512x1 32) (t : Fin 512) : ℕ := seen (routeAt r) t.val (routeAt r t)

/-- The slot of each token. -/
def slotAt (r : IVec S512x1 32) (t : Fin 512) : ℕ := routeAt r t / 4 * 16 + routeAt r t % 4 * 3 + rankAt r t

/-- A rank is at most the number of tokens. -/
theorem rankAt_le (r : IVec S512x1 32) (t : Fin 512) : rankAt r t ≤ 512 := seen_le _ _ _

/-- A flag converted to a number is one or zero. -/
theorem flag_real (b : BitVec 1) :
    FloatOps.sitofp (F := Ideal) FTy.f32 (BitVec.setWidth 32 b) = if b = 1#1 then (1 : EReal) else 0 := by
  have hb : b = 0#1 ∨ b = 1#1 := by
    revert b; decide
  rcases hb with rfl | rfl
  · rw [if_neg (by decide)]
    show (((BitVec.setWidth 32 0#1).toInt : ℝ) : EReal) = 0
    rw [show (BitVec.setWidth 32 0#1).toInt = 0 by decide]
    simp
  · rw [if_pos rfl]
    show (((BitVec.setWidth 32 1#1).toInt : ℝ) : EReal) = 1
    rw [show (BitVec.setWidth 32 1#1).toInt = 1 by decide]
    simp

/-- A truth value as a bit is the bit one exactly when true. -/
theorem ofBool_one (p : Prop) [Decidable p] : (BitVec.ofBool (decide p) = 1#1) ↔ p := by
  by_cases h : p <;> simp [h]

/-- The word is a small number exactly when its value is. -/
theorem word_eq (b : BitVec 32) (n : ℕ) (hn : n < 2 ^ 32) : b = BitVec.ofNat 32 n ↔ b.toNat = n := by
  constructor
  · rintro rfl
    rw [BitVec.toNat_ofNat, Nat.mod_eq_of_lt hn]
  · rintro rfl
    rw [BitVec.ofNat_toNat, BitVec.setWidth_eq]

/-- Comparing a word with a small number compares the word's value. -/
theorem cmp_word (b : BitVec 32) (n : ℕ) (hn : n < 2 ^ 32) : IntOp.cmpi .eq b (BitVec.ofNat 32 n) = 1#1 ↔ b.toNat = n := by
  rw [WordCmp.cmpi_eq_eq, ofBool_one, word_eq b n hn]

/-- Signed order of small numbers. -/
theorem cmp_small (a b : ℕ) (ha : a < 2 ^ 31) (hb : b < 2 ^ 31) :
    IntOp.cmpi .slt (BitVec.ofNat 32 a) (BitVec.ofNat 32 b) = 1#1 ↔ a < b := by
  rw [WordCmp.cmpi_slt_ofNat (w := 32) ha hb, ofBool_one]

/-- Summing whole numbers as extended reals is summing them as whole numbers. -/
theorem cast_sum (s : Finset (Fin 512)) (f : Fin 512 → ℕ) :
    ∑ i ∈ s, (((f i : ℕ) : ℝ) : EReal) = (((∑ i ∈ s, f i : ℕ) : ℝ) : EReal) := by
  classical
  induction s using Finset.induction_on with
  | empty => simp
  | insert a s ha ih => rw [Finset.sum_insert ha, Finset.sum_insert ha, ih, Nat.cast_add, EReal.coe_add]

/-- The kernel's rank of a token counts the earlier tokens of its route. -/
theorem rank_eq (r : IVec S512x1 32) (t : Fin 512) (ht : routeAt r t < 128) :
    k0_pay3 (F := Ideal) r (ix2 t (0 : Fin 1)) = ((rankAt r t : ℝ) : EReal) := by
  pointwise [k0_pay3, k0_pay2]
  rw [Finset.sum_eq_single (⟨routeAt r t, ht⟩ : Fin 128)]
  · refine (if_pos ((cmp_word _ _ (lt_trans ht (by norm_num))).2 rfl)).trans ?_
    have hterm : ∀ i : Fin 512,
        FloatOps.sitofp (F := Ideal) FTy.f32
            (BitVec.setWidth 32 (IntOp.cmpi CmpIPredicate.slt (BitVec.ofNat 32 i.val) (BitVec.ofNat 32 t.val))) *
          FloatOps.sitofp (F := Ideal) FTy.f32
            (BitVec.setWidth 32 (IntOp.cmpi CmpIPredicate.eq (r (ix2 i (0 : Fin 1))) (BitVec.ofNat 32 (routeAt r t))))
        = (((if i.val < t.val ∧ routeAt r i = routeAt r t then 1 else 0 : ℕ) : ℝ) : EReal) := by
      intro i
      rw [flag_real, flag_real]
      have h1 := cmp_small i.val t.val (by omega) (by omega)
      have h2 := cmp_word (r (ix2 i (0 : Fin 1))) (routeAt r t) (lt_trans ht (by norm_num))
      change _ ↔ routeAt r i = _ at h2
      simp only [h1, h2]
      by_cases ha : i.val < t.val <;> by_cases hb : routeAt r i = routeAt r t <;> simp [ha, hb]
    refine (Finset.sum_congr rfl fun i _ => hterm i).trans ?_
    rw [cast_sum]
    unfold rankAt seen
    rw [Finset.card_filter]
  · intro e _ he
    refine if_neg fun h => he (Fin.ext ?_)
    exact ((cmp_word _ _ (lt_trans e.isLt (by norm_num))).1 h).symm
  · intro h
    exact absurd (Finset.mem_univ _) h

/-- The bits of the capacity are the number three. -/
theorem three_bits : Ideal.ofBits .f32 1077936128#32 = ((3 : ℝ) : EReal) := by
  simp [Ideal.ofBits, Ideal.ieee, -EReal.coe_mul]; norm_num

/-- The kernel's keep flag. -/
theorem keep_eq (r : IVec S512x1 32) (t : Fin 512) (ht : routeAt r t < 128) :
    k0_pay4 (F := Ideal) r (ix2 t (0 : Fin 1)) = 1#1 ↔ rankAt r t < 3 := by
  pointwise [k0_pay4]
  rw [rank_eq r t ht, ofBool_one, three_bits, EReal.coe_lt_coe_iff]
  exact_mod_cast Iff.rfl

/-- The kernel's rank as a word. -/
theorem rank_word (r : IVec S512x1 32) (t : Fin 512) (ht : routeAt r t < 128) :
    k0_pay5 (F := Ideal) r (ix2 t (0 : Fin 1)) = BitVec.ofNat 32 (rankAt r t) := by
  pointwise [k0_pay5]
  rw [rank_eq r t ht]
  show BitVec.ofInt 32 (Ideal.toIntClamped _ _ _) = _
  have hle := rankAt_le r t
  rw [Ideal.toIntClamped_coe, if_pos (Nat.cast_nonneg _), Int.floor_natCast]
  rw [← BitVec.ofInt_natCast]
  congr 1
  norm_num
  omega

/-- The slot's part from the route alone, for each route. -/
theorem slot_route (n : Fin 128) :
    IntOp.addi
        (IntOp.muli
          (Scalar.select
            (IntOp.andi
              (IntOp.cmpi CmpIPredicate.ne
                (IntOp.subi (BitVec.setWidth 32 (IntOp.cmpi CmpIPredicate.sgt (BitVec.ofNat 32 n.val) 0#32))
                  (BitVec.setWidth 32 (IntOp.cmpi CmpIPredicate.slt (BitVec.ofNat 32 n.val) 0#32)))
                (Scalar.subi (Scalar.extui (Scalar.cmpi CmpIPredicate.sgt 4#32 0#32))
                  (Scalar.extui (Scalar.cmpi CmpIPredicate.slt 4#32 0#32))))
              (IntOp.cmpi CmpIPredicate.ne (IntOp.remsi ArithUnit.vector (BitVec.ofNat 32 n.val) 4#32) 0#32))
            (IntOp.subi (IntOp.divsi ArithUnit.vector (BitVec.ofNat 32 n.val) 4#32) 1#32)
            (IntOp.divsi ArithUnit.vector (BitVec.ofNat 32 n.val) 4#32))
          16#32)
        (IntOp.muli
          (Scalar.select
            (IntOp.andi
              (IntOp.xori
                (IntOp.cmpi CmpIPredicate.slt
                  (IntOp.remsi ArithUnit.vector (BitVec.ofNat 32 n.val)
                    (Scalar.select (Scalar.cmpi CmpIPredicate.eq 4#32 0#32) 1#32 4#32))
                  0#32)
                (Scalar.cmpi CmpIPredicate.slt (Scalar.select (Scalar.cmpi CmpIPredicate.eq 4#32 0#32) 1#32 4#32) 0#32))
              (IntOp.cmpi CmpIPredicate.ne
                (IntOp.remsi ArithUnit.vector (BitVec.ofNat 32 n.val)
                  (Scalar.select (Scalar.cmpi CmpIPredicate.eq 4#32 0#32) 1#32 4#32))
                0#32))
            (IntOp.addi
              (IntOp.remsi ArithUnit.vector (BitVec.ofNat 32 n.val)
                (Scalar.select (Scalar.cmpi CmpIPredicate.eq 4#32 0#32) 1#32 4#32))
              (Scalar.select (Scalar.cmpi CmpIPredicate.eq 4#32 0#32) 1#32 4#32))
            (IntOp.remsi ArithUnit.vector (BitVec.ofNat 32 n.val)
              (Scalar.select (Scalar.cmpi CmpIPredicate.eq 4#32 0#32) 1#32 4#32)))
          3#32)
      = BitVec.ofNat 32 (n.val / 4 * 16 + n.val % 4 * 3) := by
  revert n
  decide +kernel

/-- The kernel's slot of a token as a word. -/
theorem slot_word (r : IVec S512x1 32) (t : Fin 512) (ht : routeAt r t < 128) :
    colOf (F := Ideal) r (ix2 t (0 : Fin 1)) = BitVec.ofNat 32 (slotAt r t) := by
  pointwise [colOf, k0_pay8, k0_pay6, k0_pay7, k0_pay2]
  rw [rank_word r t ht, show r (ix2 t (0 : Fin 1)) = BitVec.ofNat 32 (⟨routeAt r t, ht⟩ : Fin 128).val from
    (word_eq _ _ (lt_trans ht (by norm_num))).2 rfl, slot_route]
  exact BitVec.ofNat_add_ofNat ..

end Cert.MoE
-- ==== Proof.Rows.lean ====
/-
# The rows a device computes

On the model of real numbers, with every route below the number of experts: the row that a device computes in the slot
of a kept token is the token times the weights of the token's expert.
-/
module

public import proofs.«01_k».proof.Proof.Rank
public import Idealize.ShloMosaic.Lib.Affine

@[expose] public section
noncomputable section

namespace Cert.MoE

open Cert.KernelIdeal Cert.KernelIdeal.Gen
open Idealize.ShloMosaic Idealize.ShloMosaic.TcCoe
open scoped BigOperators

/-- Two kept tokens in one slot are one token. -/
theorem slot_inj (r : IVec S512x1 32) (i j : Fin 512) (hi : rankAt r i < 3) (hj : rankAt r j < 3) (h : slotAt r i = slotAt r j) : i = j := by
  unfold slotAt at h
  have hd : routeAt r i / 4 = routeAt r j / 4 := by omega
  have he : routeAt r i % 4 = routeAt r j % 4 := by omega
  have hr : rankAt r i = rankAt r j := by omega
  have hg : routeAt r i = routeAt r j := by omega
  exact seen_inj (routeAt r) i j hg hr

/-- Slots are small numbers. -/
theorem slot_lt (r : IVec S512x1 32) (hr : ∀ t, routeAt r t < 128) (t : Fin 512) : slotAt r t < 2 ^ 31 := by
  have := hr t
  have := rankAt_le r t
  unfold slotAt
  omega

/-- The selection that scatters: one where the token is kept and the slot is its own. -/
theorem pfull_eq (r : IVec S512x1 32) (hr : ∀ t, routeAt r t < 128) (t s : Fin 512) :
    pfullOf (F := Ideal) r (ix2 t s) = if slotAt r t = s.val ∧ rankAt r t < 3 then (1 : EReal) else 0 := by
  pointwise [pfullOf, k0_pay14]
  rw [flag_real, slot_word r t (hr t)]
  have h := slot_lt r hr t
  refine if_congr ?_ rfl rfl
  rw [IntOp.andi_eq_one, keep_eq r t (hr t), cmp_word _ _ (by omega), BitVec.toNat_ofNat, Nat.mod_eq_of_lt (by omega)]

/-- The selection with which device `c` gathers: one where the token is kept and the slot is its own. -/
theorem pmy_eq (c : Fin 32) (r : IVec S512x1 32) (hr : ∀ t, routeAt r t < 128) (t : Fin 512) (s : Fin 16) :
    pmyOf (F := Ideal) (BitVec.ofNat 32 c.val) r (ix2 t s) = if slotAt r t = s.val + 16 * c.val ∧ rankAt r t < 3 then (1 : EReal) else 0 := by
  pointwise [pmyOf, k0_pay9]
  rw [flag_real]
  have h := slot_lt r hr t
  refine if_congr ?_ rfl rfl
  have hm : IntOp.addi (BitVec.ofNat 32 s.val) (Scalar.muli 16#32 (BitVec.ofNat 32 c.val)) = BitVec.ofNat 32 (s.val + 16 * c.val) := by
    rw [Scalar.muli, IntOp.muli, IntOp.addi, BitVec.ofNat_add, BitVec.ofNat_mul]
  have hw := slot_word r t (hr t)
  unfold colOf at hw
  rw [hm, hw, IntOp.andi_eq_one, keep_eq r t (hr t), cmp_word _ _ (by omega), BitVec.toNat_ofNat, Nat.mod_eq_of_lt (by omega)]

/-- A sum against a flag that only one token has is that token's term. -/
theorem sum_flag (P : Fin 512 → Prop) [DecidablePred P] (t : Fin 512) (ht : P t) (hu : ∀ i, P i → i = t) (f : Fin 512 → EReal) :
    ∑ i : Fin 512, (if P i then (1 : EReal) else 0) * f i = f t := by
  rw [Finset.sum_eq_single t]
  · rw [if_pos ht, one_mul]
  · intro i _ hi
    rw [if_neg (fun h => hi (hu i h)), zero_mul]
  · intro h
    exact absurd (Finset.mem_univ _) h

/-- The slot of a kept token within its device's sixteen. -/
def place (r : IVec S512x1 32) (t : Fin 512) : ℕ := routeAt r t % 4 * 3 + rankAt r t

/-- The gathered row in a kept token's slot is the token. -/
theorem gathered_eq (c : Fin 32) (x : FVec Ideal S512x256 .bf16) (r : IVec S512x1 32) (hr : ∀ t, routeAt r t < 128) (t : Fin 512)
    (hk : rankAt r t < 3) (hc : routeAt r t / 4 = c.val) (s : Fin 16) (hs : s.val = place r t) (k : Fin 256) :
    k0_pay10 (F := Ideal) (pmyOf (F := Ideal) (BitVec.ofNat 32 c.val) r) x (ix2 s k) = x (ix2 t k) := by
  pointwise [k0_pay10]
  refine (Finset.sum_congr rfl fun i _ => congrArg (· * x (ix2 i k)) (pmy_eq c r hr i s)).trans ?_
  have hst : slotAt r t = s.val + 16 * c.val := by
    unfold place at hs
    unfold slotAt
    omega
  exact sum_flag (fun i => slotAt r i = s.val + 16 * c.val ∧ rankAt r i < 3) t ⟨hst, hk⟩
    (fun i hi => slot_inj r i t hi.2 hk (hi.1.trans hst.symm)) fun i => x (ix2 i k)

/-- The mask of the slots from `a` up to `b`. -/
theorem mask_eq (s : Fin 16) (a b : ℕ) (ha : a < 2 ^ 31) (hb : b < 2 ^ 31) :
    FloatOps.sitofp (F := Ideal) FTy.f32 (BitVec.setWidth 32 (IntOp.andi
      (IntOp.cmpi .sge (BitVec.ofNat 32 s.val) (BitVec.ofNat 32 a)) (IntOp.cmpi .slt (BitVec.ofNat 32 s.val) (BitVec.ofNat 32 b))))
      = if a ≤ s.val ∧ s.val < b then (1 : EReal) else 0 := by
  rw [flag_real]
  refine if_congr ?_ rfl rfl
  rw [IntOp.andi_eq_one, cmp_small _ _ (by omega) hb, WordCmp.cmpi_sge_ofNat (w := 32) (by norm_num; omega) (by norm_num; omega), ofBool_one]

/-- Expert `e`'s weights, read at an index. -/
theorem wExp_apply (w : FVec Ideal S4x256x512 .bf16) (e : Fin 4) (h) (k : Fin 256) (n : Fin 512) :
    wExp (F := Ideal) w ![e.val, 0, 0] h (ix3 (0 : Fin 1) k n) = w (ix3 e k n) := by
  unfold wExp
  rw [View.readAt_apply]
  refine congrArg w (funext fun a => Fin.ext ?_)
  fin_cases a
  · show e.val + 1 * 0 = e.val
    omega
  · show 0 + 1 * k.val = k.val
    omega
  · show 0 + 1 * n.val = n.val
    omega

/-- Expert `e`'s part of a row: the token's product where the slot is one of the expert's three, else zero. -/
theorem part_eq (X : Fin 256 → EReal) (w : FVec Ideal S4x256x512 .bf16) (e : Fin 4) (h) (s : Fin 16) (n : Fin 512) (a b : ℕ)
    (ha : a = 3 * e.val) (hb : b = 3 * e.val + 3) :
    (∑ k : Fin 256, X k * FloatOps.sitofp (F := Ideal) FTy.f32 (BitVec.setWidth 32 (IntOp.andi
      (IntOp.cmpi .sge (BitVec.ofNat 32 s.val) (BitVec.ofNat 32 a)) (IntOp.cmpi .slt (BitVec.ofNat 32 s.val) (BitVec.ofNat 32 b))))
      * wExp (F := Ideal) w ![e.val, 0, 0] h (ix3 (0 : Fin 1) k n) : EReal)
      = if s.val / 3 = e.val then ∑ k : Fin 256, X k * w (ix3 e k n) else 0 := by
  have hm := mask_eq s a b (by omega) (by omega)
  have hiff : (a ≤ s.val ∧ s.val < b) ↔ s.val / 3 = e.val := by omega
  simp only [hm, wExp_apply, hiff]
  by_cases hs : s.val / 3 = e.val
  · simp only [if_pos hs, mul_one]
  · simp only [if_neg hs, mul_zero, zero_mul, Finset.sum_const_zero]

/-- The row that device `c` computes in the slot of a kept token with one of its routes: the token times the weights of
the route's expert. -/
theorem rows_eq (c : Fin 32) (x : FVec Ideal S512x256 .bf16) (r : IVec S512x1 32) (w : FVec Ideal S4x256x512 .bf16)
    (hr : ∀ t, routeAt r t < 128) (t : Fin 512)
    (hk : rankAt r t < 3) (hc : routeAt r t / 4 = c.val) (s : Fin 16) (hs : s.val = place r t) (n : Fin 512) :
    rowsOf (F := Ideal) (BitVec.ofNat 32 c.val) x r w (ix2 s n)
      = ∑ k : Fin 256, x (ix2 t k) * w (ix3 (⟨routeAt r t % 4, Nat.mod_lt _ (by decide)⟩ : Fin 4) k n) := by
  have hx := fun k => gathered_eq c x r hr t hk hc s hs k
  pointwise [rowsOf, k0_pay13, k0_pay11, k0_pay12]
  simp only [hx]
  refine (congrArg₂ (· + ·) (congrArg₂ (· + ·) (congrArg₂ (· + ·)
    (part_eq (fun k => x (ix2 t k)) w 0 inb_S4x256x512_S1x256x512_0_0_0 s n 0 3 rfl rfl)
    (part_eq (fun k => x (ix2 t k)) w 1 inb_S4x256x512_S1x256x512_1_0_0 s n 3 6 rfl rfl))
    (part_eq (fun k => x (ix2 t k)) w 2 inb_S4x256x512_S1x256x512_2_0_0 s n 6 9 rfl rfl))
    (part_eq (fun k => x (ix2 t k)) w 3 inb_S4x256x512_S1x256x512_3_0_0 s n 9 12 rfl rfl)).trans ?_
  have hq : s.val / 3 = routeAt r t % 4 := by
    unfold place at hs
    omega
  rw [hq]
  generalize hE : (⟨routeAt r t % 4, Nat.mod_lt _ (by decide)⟩ : Fin 4) = E
  have hE' : routeAt r t % 4 = E.val := congrArg Fin.val hE
  rw [hE']
  fin_cases E <;> simp

end Cert.MoE
-- ==== Proof.Frames.lean ====
/-
# The kernel's run, read at its arguments and its result

The run leaves every device's four argument arrays as they were, every counter at zero, and the result array at the
product of the token selection with the gathered rows.
-/
module

public import proofs.«01_k».proof.Proof.Run
public import proofs.«01_k».proof.Defs
public import proofs.«01_k».proof.Proof.Gen.Kernel
public import proofs.«01_k».proof.Proof.Gen.Pre_routes_in_range_KernelIdeal

@[expose] public section

noncomputable section

namespace Cert.MoE

open Cert.KernelIdeal Cert.KernelIdeal.Gen
open Idealize.ShloMosaic Idealize.ShloMosaic.TcCoe
open Idealize.SL.Sem

variable {F : FTy → Type} [FloatOps F]
variable (m : (ℓ : Loc nD τ sig) → Buf (Elt F) ℓ) (ρ : Dev nD → PrngReg)

/-- The staged arguments end as they were. -/
theorem finalA_in0 (c : Dev nD) : finalA m ρ c (0 : Fin 4) = m ((c : Thread nD τ).loc main_arg0) :=
  (dats m ρ 0 c).arrAt_in (0 : Fin 4) rfl _
/-- The routes are as they were, -/
theorem finalA_in1 (c : Dev nD) : finalA m ρ c (1 : Fin 4) = m ((c : Thread nD τ).loc main_arg2) :=
  (dats m ρ 0 c).arrAt_in (1 : Fin 4) rfl _
/-- and the experts. -/
theorem finalA_in2 (c : Dev nD) : finalA m ρ c (2 : Fin 4) = m ((c : Thread nD τ).loc main_arg3) :=
  (dats m ρ 0 c).arrAt_in (2 : Fin 4) rfl _

/-- The result array, read through its one block, is what the body computed. -/
theorem finalA_out_read (c : Dev nD) :
    (win0_3.blk (0 : Fin 1)).view.read (Elt F) (finalA m ρ c (3 : Fin 4)) = outAt m ρ c := by
  have h : finalA m ρ c (3 : Fin 4) = (dats m ρ 0 c).arrAt (3 : Fin 4) (((0 : Fin 1) : Fin cfg0.N).val + 1) := rfl
  rw [h, (dats m ρ 0 c).arrAt_succ (3 : Fin 4) (0 : Fin 1), if_pos (by decide)]
  exact View.read_write_univ _ _

/-- A whole array's one block, read, is the array. -/
theorem read_x (f : (main_arg0 : Ref sig .tc).ty.Contents (Elt F)) : (win0_0.blk (0 : Fin 1)).view.read (Elt F) f = f := by
  exact Memref.read_access_unit_zero (Elt F) main_arg0 (funext fun a => by fin_cases a <;> decide) (fun a => by fin_cases a <;> decide) f
/-- The routes' window is the whole array, -/
theorem read_r (f : (main_arg2 : Ref sig .tc).ty.Contents (Elt F)) : (win0_1.blk (0 : Fin 1)).view.read (Elt F) f = f := by
  exact Memref.read_access_unit_zero (Elt F) main_arg2 (funext fun a => by fin_cases a <;> decide) (fun a => by fin_cases a <;> decide) f
/-- the experts' window is, -/
theorem read_w (f : (main_arg3 : Ref sig .tc).ty.Contents (Elt F)) : (win0_2.blk (0 : Fin 1)).view.read (Elt F) f = f := by
  exact Memref.read_access_unit_zero (Elt F) main_arg3 (funext fun a => by fin_cases a <;> decide) (fun a => by fin_cases a <;> decide) f
/-- and the result's. -/
theorem read_o (f : (main_v1 : Ref sig .tc).ty.Contents (Elt F)) : (win0_3.blk (0 : Fin 1)).view.read (Elt F) f = f := by
  exact Memref.read_access_unit_zero (Elt F) main_v1 (funext fun a => by fin_cases a <;> decide) (fun a => by fin_cases a <;> decide) f

/-- Device `c` is given its tokens, -/
theorem xstg_eq (c : Dev nD) : xstg m ρ c = m ((c : Thread nD τ).loc main_arg0) := read_x _
/-- its routes, -/
theorem rstg_eq (c : Dev nD) : rstg m ρ c = m ((c : Thread nD τ).loc main_arg2) := read_r _
/-- its experts. -/
theorem wstg_eq (c : Dev nD) : wstg m ρ c = m ((c : Thread nD τ).loc main_arg3) := read_w _

/-- The result array is what the body computed. -/
theorem finalA_out (c : Dev nD) : finalA m ρ c (3 : Fin 4) = outAt m ρ c :=
  (read_o _).symm.trans (finalA_out_read m ρ c)

/-- Every device's run: the result is the computed one, the arguments are unchanged, the counters are zero. -/
theorem run_kernel : θ_run defs (onTc (τ := τ) (main (F := F))) ⟨m, fun _ => 0, ρ⟩ (fun r => (∀ c : Dev nD,
      r.2.mem ((c : Thread nD τ).loc main_v1) = outAt m ρ c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3))
      ∧ r.2.sem = fun _ => 0) :=
  (θ_run defs _ _).mono (fun r h => ⟨fun c =>
    ⟨((h.1 c).1 (3 : Fin 4)).trans (finalA_out m ρ c), ((h.1 c).1 (0 : Fin 4)).trans (finalA_in0 m ρ c), (h.1 c).2,
      ((h.1 c).1 (1 : Fin 4)).trans (finalA_in1 m ρ c), ((h.1 c).1 (2 : Fin 4)).trans (finalA_in2 m ρ c)⟩, h.2⟩)
    (run_main m ρ)

/-- The same run, the result dropped. -/
theorem run_frame : θ_run defs (onTc (τ := τ) (main (F := F))) ⟨m, fun _ => 0, ρ⟩ (fun r => (∀ c : Dev nD,
      r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3))
      ∧ r.2.sem = fun _ => 0) :=
  (θ_run defs _ _).mono (fun r h => ⟨fun c => (h.1 c).2, h.2⟩) (run_kernel m ρ)

/-- The two printed programs have the same table of bodies. -/
theorem bodies_eq : Cert.Kernel.defs₀ (F := Bits) = Cert.KernelIdeal.defs₀ (F := Bits) :=
  congrArg Defs.onTc (funext fun l => funext fun a => by
    match l, a with
    | 0, (t, s) => exact rfl)
/-- So the two programs' definitions are the same. -/
theorem tables_eq : Cert.Kernel.defs (F := Bits) = Cert.KernelIdeal.defs (F := Bits) :=
  congrArg (Pipeline.defs Cert.KernelIdeal.pcfgs) bodies_eq

/-- The kernel at machine floats. -/
theorem frame_kernel : Cert.quiescent_Kernel := fun m ρ _ => by
  rw [tables_eq]
  exact run_frame (F := Bits) m ρ

/-- The kernel over the extended reals likewise, with and without the condition on the routes. -/
theorem frame_kernelIdeal : Cert.quiescent_KernelIdeal := fun m ρ _ => run_frame (F := Ideal) m ρ
/-- The frame holds a fortiori with the routes in range. -/
theorem frame_kernelIdeal_pre : Cert.quiescent_KernelIdeal_pre_routes_in_range_KernelIdeal := fun m ρ _ =>
  run_frame (F := Ideal) m ρ

end Cert.MoE

end
-- ==== Proof.RefRun.lean ====
/-
# The reference's run

The reference's loop leaves the arguments and the flat routes as they were; after it the result is read off the last
operations, with the loop's keep flags at their final contents.
-/
module

public import proofs.«01_k».proof.Defs
public import proofs.«01_k».proof.Proof.Gen.ReferenceIdeal.Run
public import proofs.«01_k».proof.Proof.Gen.Pre_routes_in_range_ReferenceIdeal

@[expose] public section

noncomputable section

namespace Cert.MoE.Ref

open Cert.ReferenceIdeal Cert.ReferenceIdeal.Gen Cert.ReferenceIdeal.Value
open Idealize.ShloMosaic Idealize.ShloMosaic.TcCoe Idealize.ShloMosaic.Tactic Idealize.ShloMosaic.StableHlo
open Idealize.SL.Sem

variable {F : FTy → Type} [FloatOps F]
variable (m : (ℓ : Loc nD τ sig) → Buf (Elt F) ℓ) (ρ : Dev nD → PrngReg)

/-- A buffer that neither the condition nor the body writes keeps its contents through every trip. -/
theorem atK_keep (r : Ref sig .tc) (h0 : r ∉ condOps_W) (h1 : r ∉ while0Ops0_W) (h2 : r ∉ while0Ops0_1_W)
    (h3 : r ∉ while0Ops0_2_W) (h4 : r ∉ while0Ops0_3_W) (c : Dev nD) : ∀ k,
    atK m k c (Proc.devRef .tc r) = entryContents preI m c (Proc.devRef .tc r)
  | 0 => rfl
  | k + 1 => by
    rw [show atK m (k + 1) c = afterL bodyI (after condOps (atK m k c)) from rfl]
    simp only [afterL_cons, afterL_nil]
    rw [after_of_writes_sub while0Ops0_3 _ while0Ops0_3_writes h4, after_of_writes_sub while0Ops0_2 _ while0Ops0_2_writes h3,
      after_of_writes_sub while0Ops0_1 _ while0Ops0_1_writes h2, after_of_writes_sub while0Ops0 _ while0Ops0_writes h1,
      after_of_writes_sub condOps _ condOps_writes h0, atK_keep r h0 h1 h2 h3 h4 c k]
    rfl

/-- Every buffer's contents once the loop has ended. -/
def atEnd (c : Dev nD) : Valuation τ sig (Elt F) := after condOps (atK m 512 c)

/-- The loop leaves the tokens, -/
theorem atEnd_arg0 (c : Dev nD) : atEnd m c (Proc.devRef .tc main_arg0) = m ((c.tc : Thread nD τ).loc main_arg0) := by
  unfold atEnd
  rw [after_of_writes_sub condOps _ condOps_writes (by decide), atK_keep m main_arg0 (by decide) (by decide) (by decide) (by decide) (by decide)]
  simp only [entryContents, afterL_cons, afterL_nil]
  exact after_of_writes_sub hostOps0 _ hostOps0_writes (by decide)
/-- the router's weights, -/
theorem atEnd_arg1 (c : Dev nD) : atEnd m c (Proc.devRef .tc main_arg1) = m ((c.tc : Thread nD τ).loc main_arg1) := by
  unfold atEnd
  rw [after_of_writes_sub condOps _ condOps_writes (by decide), atK_keep m main_arg1 (by decide) (by decide) (by decide) (by decide) (by decide)]
  simp only [entryContents, afterL_cons, afterL_nil]
  exact after_of_writes_sub hostOps0 _ hostOps0_writes (by decide)
/-- the routes -/
theorem atEnd_arg2 (c : Dev nD) : atEnd m c (Proc.devRef .tc main_arg2) = m ((c.tc : Thread nD τ).loc main_arg2) := by
  unfold atEnd
  rw [after_of_writes_sub condOps _ condOps_writes (by decide), atK_keep m main_arg2 (by decide) (by decide) (by decide) (by decide) (by decide)]
  simp only [entryContents, afterL_cons, afterL_nil]
  exact after_of_writes_sub hostOps0 _ hostOps0_writes (by decide)
/-- and the experts as they were. -/
theorem atEnd_arg3 (c : Dev nD) : atEnd m c (Proc.devRef .tc main_arg3) = m ((c.tc : Thread nD τ).loc main_arg3) := by
  unfold atEnd
  rw [after_of_writes_sub condOps _ condOps_writes (by decide), atK_keep m main_arg3 (by decide) (by decide) (by decide) (by decide) (by decide)]
  simp only [entryContents, afterL_cons, afterL_nil]
  exact after_of_writes_sub hostOps0 _ hostOps0_writes (by decide)

/-- The routes as a list of 512 words. -/
abbrev flat (r : (⟨S512x1, .i32⟩ : BufTy).Contents (Elt F)) : (⟨S512, .i32⟩ : BufTy).Contents (Elt F) :=
  shapeCast S512 r shapeCasts_S512x1_S512

/-- The loop starts with the flat routes, -/
theorem entry_v0 (c : Dev nD) : entryContents preI m c (Proc.devRef .tc main_v0) = flat (m ((c.tc : Thread nD τ).loc main_arg2)) := by
  simp only [entryContents, afterL_cons, afterL_nil]
  after_reads_simp
  rfl
/-- which it also carries, -/
theorem entry_v3_0 (c : Dev nD) : entryContents preI m c (Proc.devRef .tc main_v3_0) = flat (m ((c.tc : Thread nD τ).loc main_arg2)) := by
  simp only [entryContents, afterL_cons, afterL_nil]
  after_reads_simp
  rfl
/-- with all counts zero, -/
theorem entry_v3_2 (c : Dev nD) : entryContents preI m c (Proc.devRef .tc main_v3_2) = fun _ => (0#32 : BitVec 32) := by
  simp only [entryContents, afterL_cons, afterL_nil]
  after_reads_simp
  rfl
/-- and with no token kept. -/
theorem entry_v3_3 (c : Dev nD) : entryContents preI m c (Proc.devRef .tc main_v3_3) = fun _ => (0#1 : BitVec 1) := by
  simp only [entryContents, afterL_cons, afterL_nil]
  after_reads_simp
  rfl
/-- It leaves the flat routes as they were. -/
theorem atEnd_v0 (c : Dev nD) : atEnd m c (Proc.devRef .tc main_v0) = flat (m ((c.tc : Thread nD τ).loc main_arg2)) := by
  unfold atEnd
  rw [after_of_writes_sub condOps _ condOps_writes (by decide), atK_keep m main_v0 (by decide) (by decide) (by decide) (by decide) (by decide)]
  exact entry_v0 m c

/-- The references the operations after the loop write. -/
abbrev post1_W : List (Ref sig .tc) := [main_v4, main_c_2, main_v5, main_v6, main_c_3, main_v7, main_v8, main_v9, main_v10, main_v11, main_v12, main_v13, main_v14, main_cst]
/-- The operations after the loop write only these references, -/
theorem post1_writes : (hostOps0_1 : List (HloOp τ sig (Elt F))).Forall fun op => op.writes ⊆ (post1_W.map (Proc.devRef (τ := τ) .tc)).toFinset :=
  StableHlo.forall_writes_sub_of_map rfl
/-- and the last ones only these: -/
abbrev post2_W : List (Ref sig .tc) := [main_call2_v0, main_call2_v1, main_call2_v2, main_v15]
/-- each is among them. -/
theorem post2_writes : (hostOps0_2 : List (HloOp τ sig (Elt F))).Forall fun op => op.writes ⊆ (post2_W.map (Proc.devRef (τ := τ) .tc)).toFinset :=
  StableHlo.forall_writes_sub_of_map rfl

/-- A reference that none of them writes keeps its contents. -/
theorem post_keep (V : Valuation τ sig (Elt F)) (r : Ref sig .tc) (h1 : r ∉ post1_W) (h2 : r ∉ post2_W) :
    afterL postI V (Proc.devRef .tc r) = V (Proc.devRef .tc r) := by
  simp only [afterL_cons, afterL_nil]
  rw [after_of_writes_sub hostOps0_2 _ post2_writes h2, after_of_writes_sub hostOps0_1 _ post1_writes h1]

/-- The routes with a negative one wrapped once, as the gather's index column. -/
abbrev wrapped (v : (⟨S512, .i32⟩ : BufTy).Contents (Elt F)) : (⟨S512x1, .i32⟩ : BufTy).Contents (Elt F) :=
  broadcastInDim S512x1 ![0] bcast_S512_S512x1_0 (select (cmpi .slt v (broadcastInDim S512 ![] bcast_S_S512 (constantI S_ 32 0#32)))
    (addi v (broadcastInDim S512 ![] bcast_S_S512 (constantI S_ 32 128#32))) v)

/-- The reference's result of the tokens, the flat routes, the keep flags and the experts. -/
def refOut (x : (⟨S512x256, .bf16⟩ : BufTy).Contents (Elt F)) (v : (⟨S512, .i32⟩ : BufTy).Contents (Elt F))
    (keep : (⟨S512, .i1⟩ : BufTy).Contents (Elt F)) (w : (⟨S128x256x512, .bf16⟩ : BufTy).Contents (Elt F)) :
    (⟨S512x512, .f32⟩ : BufTy).Contents (Elt F) :=
  select (broadcastInDim S512x512 ![0, 1] bcast_S512x1_S512x512_0_1 (broadcastInDim S512x1 ![0] bcast_S512_S512x1_0 keep))
    (Host.dotGeneral dot_S512x256_S512x256x512_S512x512_1_1_n_2_0_0 none (extf .f32 x bitsLt_bf16_f32)
      (extf .f32 (Host.gather gather_S128x256x512_S512x1_S512x256x512_12_0_n_n_0_1_1256512 w (wrapped v)) bitsLt_bf16_f32))
    (broadcastInDim S512x512 ![] bcast_S_S512x512 (constant S_ .f32 0x00000000#32))

set_option maxRecDepth 8192 in
set_option maxHeartbeats 2000000 in
/-- The result after the last operations. -/
theorem post_v15 (V : Valuation τ sig (Elt F)) : afterL postI V (Proc.devRef .tc main_v15)
    = refOut (V (Proc.devRef .tc main_arg0)) (V (Proc.devRef .tc main_v0)) (V (Proc.devRef .tc main_v3_3)) (V (Proc.devRef .tc main_arg3)) := by
  simp only [afterL_cons, afterL_nil]
  after_results
  rfl

/-- The keep flags once the loop has ended. -/
def keepEnd (c : Dev nD) : (⟨S512, .i1⟩ : BufTy).Contents (Elt F) := STEP^[512] (entryContents preI m c) (Proc.devRef .tc main_v3_3)

/-- The flags after the loop are those of its last trip. -/
theorem atEnd_v3_3 (c : Dev nD) : atEnd m c (Proc.devRef .tc main_v3_3) = keepEnd m c := by
  unfold atEnd keepEnd
  rw [after_of_writes_sub condOps _ condOps_writes (by decide)]
  exact atK_agree m c 512 main_v3_3 (by decide)

/-- The reference's run: its result, its arguments, its counters. -/
theorem run_ref : θ_run defs (onTc (τ := τ) (main (F := F))) ⟨m, fun _ => 0, ρ⟩ (fun r => (∀ c : Dev nD,
      r.2.mem ((c.tc : Thread nD τ).loc main_v15) = refOut (m ((c.tc : Thread nD τ).loc main_arg0))
        (flat (m ((c.tc : Thread nD τ).loc main_arg2))) (keepEnd m c) (m ((c.tc : Thread nD τ).loc main_arg3))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3))
      ∧ r.2.sem = fun _ => 0) := by
  refine (θ_run defs _ _).mono (fun r h => ⟨fun c => ⟨?_, ?_, ?_, ?_, ?_⟩, Idealize.ShloMosaic.sem_eq_zero_of_no_sems (by decide) r.2⟩)
    (run_fold m ρ)
  · refine (h c main_v15 rfl).trans ((post_v15 (atEnd m c)).trans ?_)
    rw [atEnd_arg0, atEnd_v0, atEnd_v3_3, atEnd_arg3]
  · exact (h c main_arg0 rfl).trans ((post_keep (atEnd m c) main_arg0 (by decide) (by decide)).trans (atEnd_arg0 m c))
  · exact (h c main_arg1 rfl).trans ((post_keep (atEnd m c) main_arg1 (by decide) (by decide)).trans (atEnd_arg1 m c))
  · exact (h c main_arg2 rfl).trans ((post_keep (atEnd m c) main_arg2 (by decide) (by decide)).trans (atEnd_arg2 m c))
  · exact (h c main_arg3 rfl).trans ((post_keep (atEnd m c) main_arg3 (by decide) (by decide)).trans (atEnd_arg3 m c))

/-- The reference's frame, with and without the condition on the routes. -/
theorem frame_ref : Cert.quiescent_ReferenceIdeal := fun m ρ _ =>
  (θ_run Cert.ReferenceIdeal.defs _ _).mono (fun _ h => ⟨fun c => (h.1 c).2, h.2⟩) (run_ref (F := Ideal) m ρ)
/-- The frame holds a fortiori with the routes in range. -/
theorem frame_ref_pre : Cert.quiescent_ReferenceIdeal_pre_routes_in_range_ReferenceIdeal := fun m ρ _ =>
  (θ_run Cert.ReferenceIdeal.defs _ _).mono (fun _ h => ⟨fun c => (h.1 c).2, h.2⟩) (run_ref (F := Ideal) m ρ)

end Cert.MoE.Ref

end
-- ==== Proof.RefLoop.lean ====
/-
# What the reference's loop computes

Before trip `k` the counter of route `e` holds the number of earlier tokens with that route, capped at three, and the
keep flag of a token already met says whether fewer than three tokens before it had its route.
-/
module

public import proofs.«01_k».proof.Proof.RefRun
public import proofs.«01_k».proof.Proof.Counting
public import Idealize.ShloMosaic.Lib.Routing.OpsOrder
public import Idealize.ShloMosaic.Lib.Routing.OpsOne
public import Idealize.ShloMosaic.Lib.DynamicIndex
public import Idealize.ShloMosaic.Lib.WordCmp
public import Idealize.ShloMosaic.Lib.Pointwise

@[expose] public section

noncomputable section

namespace Cert.MoE.Ref

open Cert.ReferenceIdeal Cert.ReferenceIdeal.Gen Cert.ReferenceIdeal.Value
open Idealize.ShloMosaic Idealize.ShloMosaic.TcCoe Idealize.ShloMosaic.Tactic Idealize.ShloMosaic.StableHlo

variable {F : FTy → Type} [FloatOps F]

/-- A slice of one element at a start inside the list. -/
theorem slice_one {α : Type} {N : Nat} (x : (⟨1, ![N]⟩ : Shape).Idx → α) (start : Fin 1 → Int) (h : (⟨1, ![N]⟩ : Shape).Slices (fun _ => 0) ⟨1, ![1]⟩)
    (k : Fin N) (hk : start 0 = (k.val : Int)) (j : (⟨1, ![1]⟩ : Shape).Idx) :
    Host.dynamicSlice ⟨1, ![1]⟩ x start h j = x (ValueIdx.ix1 k) := by
  rw [Host.dynamicSlice_apply, Shape.Idx.norm_def]
  refine congrArg x (funext fun a => Fin.ext ?_)
  obtain rfl : a = 0 := Subsingleton.elim _ _
  have hj : (j (Fin.cast h.1.symm 0)).val = 0 := Nat.lt_one_iff.1 (j 0).isLt
  show Host.clampedStart _ _ h.1 start 0 + _ = k.val
  rw [hj, Host.clampedStart_of_le h.1 start 0 k.val hk (by have := k.isLt; show k.val + 1 ≤ N; omega)]
  rfl

/-- An update of one element at a start inside the list. -/
theorem update_one {α : Type} {N : Nat} (x : (⟨1, ![N]⟩ : Shape).Idx → α) (u : α) (start : Fin 1 → Int) (h : (⟨1, ![N]⟩ : Shape).Slices (fun _ => 0) ⟨1, ![1]⟩)
    (k : Fin N) (hk : start 0 = (k.val : Int)) (j : Fin N) :
    Host.dynamicUpdateSlice x (fun _ : (⟨1, ![1]⟩ : Shape).Idx => u) start h (ValueIdx.ix1 j) = if j = k then u else x (ValueIdx.ix1 j) := by
  rw [Host.dynamicUpdateSlice_apply]
  have hc : Host.clampedStart _ _ h.1 start 0 = k.val :=
    Host.clampedStart_of_le h.1 start 0 k.val hk (by have := k.isLt; show k.val + 1 ≤ N; omega)
  by_cases hj : j = k
  · rw [if_pos hj, dif_pos]
    intro a
    obtain rfl : a = 0 := Subsingleton.elim _ _
    rw [hc, hj]
    exact ⟨le_refl _, Nat.lt_succ_self _⟩
  · rw [if_neg hj, dif_neg]
    intro hin
    have := hin 0
    rw [hc] at this
    have h1 : k.val ≤ j.val ∧ j.val < k.val + 1 := this
    exact hj (Fin.ext (by omega))

/-- One word added at one entry. -/
theorem add_one {N : Nat} (d : ScatterDims ⟨1, ![N]⟩ ⟨1, ![1]⟩ ⟨0, ![]⟩) (hiw : d.insertedWindowDims = [0])
    (hsd : d.scatterDimsToOperandDims = [0]) (x : IVec ⟨1, ![N]⟩ 32) (idx : IVec ⟨1, ![1]⟩ 32) (upd : IVec ⟨0, ![]⟩ 32)
    (k : Fin N) (hidx : (idx (ValueIdx.ix1 0)).toInt = (k.val : Int)) (e : Fin N) :
    Host.scatter d IntOp.addi x idx upd (ValueIdx.ix1 e) = if e = k then x (ValueIdx.ix1 e) + upd ValueIdx.ix0 else x (ValueIdx.ix1 e) := by
  rw [← Routing.scatterIn_finRange, Routing.scatterIn_at]
  have hl := Routing.lands_one d hiw hsd idx k hidx e
  have hf : List.finRange (⟨0, ![]⟩ : Shape).numel = [(⟨0, Nat.one_pos⟩ : Fin (⟨0, ![]⟩ : Shape).numel)] := rfl
  rw [hf]
  show (if _ then _ else _) = _
  rw [ValueIdx.eq_ix0 ((⟨0, ![]⟩ : Shape).rowMajor.symm _)]
  by_cases he : e = k
  · rw [if_pos he, if_pos (hl.2 he)]; rfl
  · rw [if_neg he, if_neg fun h => he (hl.1 h)]

/-- The routes as numbers. -/
def routeNat (v : IVec S512 32) (i : Fin 512) : ℕ := (v (ValueIdx.ix1 i)).toNat

/-- The loop's carried values before trip `k`. -/
structure Inv (v : IVec S512 32) (k : ℕ) (V : Valuation τ sig (Elt F)) : Prop where
  routes : V (Proc.devRef .tc main_v3_0) = v
  trip : V (Proc.devRef .tc main_v3_1) = fun _ => BitVec.ofNat 32 k
  counts : ∀ e : Fin 128, (V (Proc.devRef .tc main_v3_2) : IVec S128 32) (ValueIdx.ix1 e) = BitVec.ofNat 32 (min 3 (seen (routeNat v) k e.val))
  keeps : ∀ j : Fin 512, (V (Proc.devRef .tc main_v3_3) : IVec S512 1) (ValueIdx.ix1 j)
    = if j.val < k ∧ seen (routeNat v) j.val (routeNat v j) < 3 then 1#1 else 0#1

/-- A small word read signed is its value. -/
theorem toInt_small {b : BitVec 32} {n : ℕ} (h : b.toNat = n) (hn : n < 2 ^ 31) : b.toInt = (n : Int) := by
  rw [BitVec.toInt_eq_toNat_cond, h]
  split <;> omega

section step
variable {v : IVec S512 32} {k : Fin 512} {V : Valuation τ sig (Elt F)} (hv : ∀ i : Fin 512, routeNat v i < 128) (hI : Inv v k.val V)
include hI

/-- The route of the trip's token. -/
theorem res_route : res_main_while0b_v16 V = fun _ => v (ValueIdx.ix1 k) := by
  unfold res_main_while0b_v16
  rw [hI.routes, hI.trip]
  have h : Host.dynamicSlice S1 (v : IVec S512 32) (fun a => ((![fun _ => BitVec.ofNat 32 k.val] : Fin 1 → (⟨S_, .i32⟩ : BufTy).Contents (Elt F)) a (Shape.Idx.first h_S_)).toInt) sliceFits_S512_S1
      = fun _ => v (ValueIdx.ix1 k) := funext fun j => slice_one (N := 512) v _ sliceFits_S512_S1 k
        (toInt_ofNat_of_lt (by have := k.isLt; omega)) j
  exact congrArg (fun y : S1.Idx → BitVec 32 => shapeCast S_ y shapeCasts_S1_S_) h

include hv

/-- A route in range is not wrapped. -/
theorem wrap_route (d : IVec S_ 32) : select (cmpi .slt (res_main_while0b_v16 V) (constantI S_ 32 0#32)) d (res_main_while0b_v16 V)
    = fun _ => v (ValueIdx.ix1 k) := by
  have hr := toInt_small (b := v (ValueIdx.ix1 k)) rfl (by have := hv k; unfold routeNat at this; omega)
  rw [res_route hI]
  exact funext fun j => select_slt_zero_of_nonneg _ _ _ j (by show 0 ≤ (v (ValueIdx.ix1 k)).toInt; rw [hr]; omega)

/-- The trip's flag: fewer than three earlier tokens had this route. -/
theorem res_flag : res_main_while0b_v22 V = fun _ => if seen (routeNat v) k.val (routeNat v k) < 3 then 1#1 else 0#1 := by
  unfold res_main_while0b_v22
  rw [wrap_route hv hI]
  have hr := toInt_small (b := v (ValueIdx.ix1 k)) rfl (by have := hv k; unfold routeNat at this; omega)
  have h : Host.dynamicSlice S1 (V (Proc.devRef .tc main_v3_2) : IVec S128 32) (fun a => ((![fun _ => v (ValueIdx.ix1 k)] : Fin 1 → (⟨S_, .i32⟩ : BufTy).Contents (Elt F)) a (Shape.Idx.first h_S_)).toInt) sliceFits_S128_S1
      = fun _ => BitVec.ofNat 32 (min 3 (seen (routeNat v) k.val (routeNat v k))) := funext fun j =>
        (slice_one (N := 128) _ _ sliceFits_S128_S1 ⟨routeNat v k, hv k⟩ hr j).trans (hI.counts ⟨routeNat v k, hv k⟩)
  refine (congrArg (fun y : S1.Idx → BitVec 32 => cmpi .slt (shapeCast S_ y shapeCasts_S1_S_) (constantI S_ 32 3#32)) h).trans ?_
  funext j
  show IntOp.cmpi .slt (BitVec.ofNat 32 (min 3 (seen (routeNat v) k.val (routeNat v k)))) 3#32 = _
  generalize seen (routeNat v) k.val (routeNat v k) = n
  rcases (by omega : n = 0 ∨ n = 1 ∨ n = 2 ∨ 3 ≤ n) with rfl | rfl | rfl | h3
  · rfl
  · rfl
  · rfl
  · rw [if_neg (by omega), min_eq_left h3]; rfl

/-- One trip keeps the invariant. -/
theorem inv_step : Inv v (k.val + 1) (STEP V) where
  routes := (STEP_main_v3_0 V).trans hI.routes
  trip := by
    rw [STEP_main_v3_1]
    unfold step_main_v3_1
    rw [hI.trip]
    funext j
    show BitVec.ofNat 32 k.val + 1#32 = BitVec.ofNat 32 (k.val + 1)
    rw [BitVec.ofNat_add]
  counts e := by
    rw [STEP_main_v3_2]
    unfold step_main_v3_2
    rw [wrap_route hv hI, res_flag hv hI]
    have hr := toInt_small (b := v (ValueIdx.ix1 k)) rfl (by have := hv k; unfold routeNat at this; omega)
    have := add_one (N := 128) scatter_S128_S1_S__n_0_0_0 rfl rfl (V (Proc.devRef .tc main_v3_2) : IVec S128 32)
      (broadcastInDim (s := S_) S1 ![] bcast_S_S1 fun _ => v (ValueIdx.ix1 k))
      (extui 32 (fun _ => if seen (routeNat v) k.val (routeNat v k) < 3 then 1#1 else 0#1) natLt_1_32) ⟨routeNat v k, hv k⟩ hr e
    refine this.trans ?_
    rw [hI.counts e, seen_succ]
    by_cases he : e = ⟨routeNat v k, hv k⟩
    · have he' : routeNat v k = e.val := by rw [he]
      rw [if_pos he, if_pos he', ← he']
      show _ + BitVec.setWidth 32 (if _ then _ else _) = _
      generalize seen (routeNat v) k.val (routeNat v k) = n
      rcases (by omega : n = 0 ∨ n = 1 ∨ n = 2 ∨ 3 ≤ n) with rfl | rfl | rfl | h3
      · rfl
      · rfl
      · rfl
      · rw [if_neg (by omega), min_eq_left h3, min_eq_left (by omega)]; rfl
    · rw [if_neg he, if_neg fun h => he (Fin.ext h.symm), Nat.add_zero]
  keeps j := by
    rw [STEP_main_v3_3]
    unfold step_main_v3_3
    rw [res_flag hv hI, hI.trip]
    refine (update_one (N := 512) (V (Proc.devRef .tc main_v3_3) : IVec S512 1) (if seen (routeNat v) k.val (routeNat v k) < 3 then 1#1 else 0#1) _ updateFits_S512_S1 k
        (toInt_ofNat_of_lt (by have := k.isLt; omega)) j).trans ?_
    rw [hI.keeps j]
    by_cases hj : j = k
    · subst hj
      simp
    · rw [if_neg hj]
      have : j.val < k.val ↔ j.val < k.val + 1 := by
        have := fun h => hj (Fin.ext h); omega
      simp only [this]

end step

variable (m : (ℓ : Loc nD τ sig) → Buf (Elt F) ℓ)

/-- The invariant at the loop's entry, and before every trip. -/
theorem inv_at (c : Dev nD) (hv : ∀ i : Fin 512, routeNat (flat (m ((c.tc : Thread nD τ).loc main_arg2))) i < 128) :
    ∀ k ≤ 512, Inv (flat (m ((c.tc : Thread nD τ).loc main_arg2))) k (STEP^[k] (entryContents preI m c))
  | 0, _ => {
      routes := entry_v3_0 m c
      trip := ctr_entry m c
      counts := fun e => by
        rw [show STEP^[0] (entryContents preI m c) = entryContents preI m c from rfl, entry_v3_2, seen_zero]; rfl
      keeps := fun j => by
        rw [show STEP^[0] (entryContents preI m c) = entryContents preI m c from rfl, entry_v3_3]
        simp }
  | k + 1, hk => by
    rw [Function.iterate_succ_apply']
    exact inv_step (k := ⟨k, hk⟩) hv (inv_at c hv k (by omega))

/-- The final keep flags: a token is kept exactly when its rank is below three. -/
theorem keepEnd_apply (c : Dev nD) (hv : ∀ i : Fin 512, routeNat (flat (m ((c.tc : Thread nD τ).loc main_arg2))) i < 128) (j : Fin 512) :
    (keepEnd m c : IVec S512 1) (ValueIdx.ix1 j)
      = if seen (routeNat (flat (m ((c.tc : Thread nD τ).loc main_arg2)))) j.val (routeNat (flat (m ((c.tc : Thread nD τ).loc main_arg2))) j) < 3 then 1#1 else 0#1 := by
  refine ((inv_at m c hv 512 le_rfl).keeps j).trans ?_
  simp only [j.isLt, true_and]

end Cert.MoE.Ref

end
-- ==== Proof.RefValue.lean ====
/-
# The reference's result at an index

With every route below the number of experts, the reference's result at a token and a column is, where the token's flag
is set, the token times its expert's column, and zero elsewhere.
-/
module

public import proofs.«01_k».proof.Proof.RefLoop
public import Idealize.ShloMosaic.Lib.Pointwise
public import Idealize.ShloMosaic.Lib.WordCmp

@[expose] public section

noncomputable section

namespace Cert.MoE.Ref

open Cert.ReferenceIdeal Cert.ReferenceIdeal.Gen Cert.ReferenceIdeal.Value
open Idealize.ShloMosaic Idealize.ShloMosaic.TcCoe
open scoped BigOperators

/-- A token's flat route is its entry in the column. -/
theorem flat_apply (r : IVec S512x1 32) (t : Fin 512) : flat (F := Ideal) r (ix1 t) = r (ix2 t (0 : Fin 1)) := by
  pointwise [flat]

/-- A route in range is not negative. -/
theorem not_negative : ∀ e : Fin 128, ¬IntOp.cmpi CmpIPredicate.slt (BitVec.ofNat 32 e.val) 0#32 = 1 := by
  decide +kernel

/-- A route in range is not wrapped. -/
theorem wrapped_apply (v : IVec S512 32) (t : Fin 512) (e : Fin 128) (he : (v (ix1 t)).toNat = e.val) :
    wrapped (F := Ideal) v (ix2 t (0 : Fin 1)) = BitVec.ofNat 32 e.val := by
  pointwise [wrapped]
  have hv : v (ix1 t) = BitVec.ofNat 32 e.val := by
    rw [← he, BitVec.ofNat_toNat, BitVec.setWidth_eq]
  rw [hv]
  exact if_neg (not_negative e)

/-- The gather's dimension numbers. -/
abbrev GD : GatherDims S128x256x512 S512x1 S512x256x512 := gather_S128x256x512_S512x1_S512x256x512_12_0_n_n_0_1_1256512

/-- The gather's result coordinates on the operand's second and third axes are the result's own. -/
theorem off_one (j : S512x256x512.Idx) : GatherDims.offCoord GD j (1 : Fin 3) = (j (1 : Fin 3)).val := by
  unfold GatherDims.offCoord
  rw [dif_pos (show (1 : Fin 3) ∈ GatherDims.sKept GD by decide)]
  have h0 : (GatherDims.sKept GD).idxOf (1 : Fin 3) = 0 := by decide
  simp only [h0]
  rfl
/-- So on the third axis. -/
theorem off_two (j : S512x256x512.Idx) : GatherDims.offCoord GD j (2 : Fin 3) = (j (2 : Fin 3)).val := by
  unfold GatherDims.offCoord
  rw [dif_pos (show (2 : Fin 3) ∈ GatherDims.sKept GD by decide)]
  have h0 : (GatherDims.sKept GD).idxOf (2 : Fin 3) = 1 := by decide
  simp only [h0]
  rfl

/-- The gathered weights of a token are its expert's. -/
theorem gather_apply {α : Type} (w : S128x256x512.Idx → α) (idx : IVec S512x1 32) (t : Fin 512) (k : Fin 256) (n : Fin 512) (e : Fin 128)
    (he : idx (ix2 t (0 : Fin 1)) = BitVec.ofNat 32 e.val) :
    Host.gather GD w idx (ix3 t k n) = w (ix3 e k n) := by
  unfold Host.gather
  refine congrArg w (funext fun a => Fin.ext ?_)
  have hb : ∀ a', GD.batchCoord (ix3 t k n) a' = 0 :=
    fun a' => GatherDims.batchCoord_eq_zero _ _ _ List.not_mem_nil
  have h0 : GatherDims.start GD (ix3 t k n) idx (0 : Fin 3) = e.val := by
    unfold GatherDims.start
    rw [dif_pos (show (0 : Fin 3) ∈ GatherDims.startIndexMap GD by decide)]
    have hsi : ∀ p, GatherDims.siIdx GD (ix3 t k n) ⟨List.idxOf (0 : Fin 3) (GatherDims.startIndexMap GD), p⟩ = ix2 t (0 : Fin 1) := by
      intro p
      funext b
      refine Fin.ext ?_
      match b with
      | ⟨0, _⟩ => rfl
      | ⟨1, _⟩ => rfl
    refine (congrArg (fun z : BitVec 32 => min z.toInt.toNat (128 - 1)) ((congrArg idx (hsi _)).trans he)).trans ?_
    show min (BitVec.ofNat 32 e.val).toInt.toNat (128 - 1) = e.val
    rw [toInt_small (n := e.val) (by rw [BitVec.toNat_ofNat, Nat.mod_eq_of_lt (by omega)]) (by omega)]
    omega
  have h1 : GatherDims.start GD (ix3 t k n) idx (1 : Fin 3) = 0 := by
    unfold GatherDims.start
    rw [dif_neg (show (1 : Fin 3) ∉ GatherDims.startIndexMap GD by decide)]
  have h2 : GatherDims.start GD (ix3 t k n) idx (2 : Fin 3) = 0 := by
    unfold GatherDims.start
    rw [dif_neg (show (2 : Fin 3) ∉ GatherDims.startIndexMap GD by decide)]
  match a with
  | ⟨0, _⟩ =>
    show GatherDims.start GD (ix3 t k n) idx (0 : Fin 3) + GatherDims.batchCoord GD (ix3 t k n) (0 : Fin 3) + GatherDims.offCoord GD (ix3 t k n) (0 : Fin 3) = e.val
    rw [hb, h0, GatherDims.offCoord_eq_zero _ _ _ (show (0 : Fin 3) ∉ GatherDims.sKept GD by decide)]
    rfl
  | ⟨1, _⟩ =>
    show GatherDims.start GD (ix3 t k n) idx (1 : Fin 3) + GatherDims.batchCoord GD (ix3 t k n) (1 : Fin 3) + GatherDims.offCoord GD (ix3 t k n) (1 : Fin 3) = k.val
    rw [hb, h1, off_one]
    exact Nat.zero_add _
  | ⟨2, _⟩ =>
    show GatherDims.start GD (ix3 t k n) idx (2 : Fin 3) + GatherDims.batchCoord GD (ix3 t k n) (2 : Fin 3) + GatherDims.offCoord GD (ix3 t k n) (2 : Fin 3) = n.val
    rw [hb, h2, off_two]
    exact Nat.zero_add _

/-- The reference's result at a token and a column. -/
theorem refOut_apply (x : FVec Ideal S512x256 .bf16) (v : IVec S512 32) (keep : IVec S512 1) (w : FVec Ideal S128x256x512 .bf16)
    (t n : Fin 512) (e : Fin 128) (he : (v (ix1 t)).toNat = e.val) :
    refOut (F := Ideal) x v keep w (ix2 t n)
      = if keep (ix1 t) = 1#1 then ∑ k : Fin 256, x (ix2 t k) * w (ix3 e k n) else (0 : EReal) := by
  pointwise [refOut]
  refine if_congr Iff.rfl (Finset.sum_congr rfl fun k _ => ?_) rfl
  exact congrArg (x (ix2 t k) * ·) (gather_apply w (wrapped v) t k n e (wrapped_apply v t e he))

end Cert.MoE.Ref
-- ==== Proof.Value.lean ====
/-
# The kernel's result

On the model of real numbers, with every route below the number of experts: the result on every device is the same, at a
kept token the token times its expert's weights, and zero at any other.
-/
module

public import proofs.«01_k».proof.Proof.Rows
public import proofs.«01_k».proof.Proof.Frames
public import proofs.«01_k».proof.Proof.RefValue
public import Idealize.ShloMosaic.Lib.ReduceAll

@[expose] public section
noncomputable section

namespace Cert.MoE

open Cert.KernelIdeal Cert.KernelIdeal.Gen
open Idealize.ShloMosaic Idealize.ShloMosaic.TcCoe
open Idealize.SL.Sem
open scoped BigOperators

/-- The program's own number on device `c` is `c`. -/
theorem myWord_eq : ∀ c : Fin 32, myWord c = BitVec.ofNat 32 c.val := by
  decide +kernel

section Out
variable (m : (ℓ : Loc nD τ sig) → Buf (Elt Ideal) ℓ) (ρ : Dev nD → PrngReg)
variable (x : FVec Ideal S512x256 .bf16) (r : IVec S512x1 32) (W : FVec Ideal ⟨3, ![128, 256, 512]⟩ .bf16)

/-- What the launch is given: every device has the tokens and the routes, and device `d` the experts `4 d` to `4 d + 3`. -/
structure Given : Prop where
  tokens : ∀ d : Dev nD, m ((d : Thread nD τ).loc main_arg0) = x
  routes : ∀ d : Dev nD, m ((d : Thread nD τ).loc main_arg2) = r
  experts : ∀ (d : Fin 32) (e : Fin 4) (k : Fin 256) (n : Fin 512),
    (m (((d : Dev nD) : Thread nD τ).loc main_arg3) : FVec Ideal S4x256x512 .bf16) (ix3 e k n) = W (ix3 (⟨4 * d.val + e.val, by omega⟩ : Fin 128) k n)
  range : ∀ t, routeAt r t < 128

variable {m x r W}

/-- The gathered row in a kept token's slot is the token times its expert's weights. -/
theorem gFull_slot (G : Given m x r W) (t : Fin 512) (hk : rankAt r t < 3) (s : Fin 512) (hs : slotAt r t = s.val) (n : Fin 512) :
    (gFull m ρ : FVec Ideal S512x512 .bf16) (ix2 s n)
      = ∑ k : Fin 256, x (ix2 t k) * W (ix3 (⟨routeAt r t, G.range t⟩ : Fin 128) k n) := by
  have hd : s.val / 16 < 32 := by omega
  have hp : place r t = s.val % 16 ∧ routeAt r t / 4 = s.val / 16 := by
    unfold slotAt at hs
    unfold place
    omega
  have hg : (gFull m ρ : FVec Ideal S512x512 .bf16) (ix2 s n)
      = rowsAt m ρ (⟨s.val / 16, hd⟩ : Fin 32) (ix2 (⟨s.val % 16, Nat.mod_lt _ (by decide)⟩ : Fin 16) n) := rfl
  rw [hg]
  unfold rowsAt
  rw [myWord_eq ⟨s.val / 16, hd⟩, xstg_eq, rstg_eq, wstg_eq, G.tokens, G.routes]
  refine (rows_eq ⟨s.val / 16, hd⟩ x r _ G.range t hk hp.2 ⟨s.val % 16, _⟩ hp.1.symm n).trans ?_
  refine Finset.sum_congr rfl fun k _ => congrArg (x (ix2 t k) * ·) ?_
  rw [G.experts]
  refine congrArg W (congrArg (fun e => ix3 e k n) (Fin.ext ?_))
  show 4 * (s.val / 16) + routeAt r t % 4 = routeAt r t
  omega

/-- The last product at an index. -/
theorem prod_apply (p : FVec Ideal S512x512 .bf16) (g : FVec Ideal S512x512 .bf16) (t n : Fin 512) :
    k0_pay1 (F := Ideal) p g (ix2 t n) = ∑ s : Fin 512, p (ix2 t s) * g (ix2 s n) := by
  pointwise [k0_pay1]

/-- The kernel's result at a token and a column. -/
theorem out_eq (G : Given m x r W) (c : Dev nD) (t n : Fin 512) :
    (outAt m ρ c : FVec Ideal S512x512 .f32) (ix2 t n)
      = if rankAt r t < 3 then ∑ k : Fin 256, x (ix2 t k) * W (ix3 (⟨routeAt r t, G.range t⟩ : Fin 128) k n) else (0 : EReal) := by
  unfold outAt
  rw [rstg_eq, G.routes]
  refine (prod_apply _ _ t n).trans ?_
  by_cases hk : rankAt r t < 3
  · rw [if_pos hk]
    have hlt : slotAt r t < 512 := by
      have := G.range t
      unfold slotAt
      omega
    rw [Finset.sum_eq_single (⟨slotAt r t, hlt⟩ : Fin 512)]
    · rw [pfull_eq r G.range, if_pos ⟨rfl, hk⟩, one_mul]
      exact gFull_slot ρ G t hk ⟨slotAt r t, hlt⟩ rfl n
    · intro s _ hs
      rw [pfull_eq r G.range, if_neg (fun h => hs (Fin.ext h.1.symm)), zero_mul]
    · intro h
      exact absurd (Finset.mem_univ _) h
  · rw [if_neg hk]
    refine Finset.sum_eq_zero fun s _ => ?_
    rw [pfull_eq r G.range, if_neg (fun h => hk h.2), zero_mul]

end Out

/-- What the precondition says of the routes. -/
theorem range_of_pre [Cert.Pre_routes_in_range_KernelIdeal.Facts] (x0 : FVec Ideal S512x256 .bf16) (x1 : FVec Ideal ⟨2, ![256, 128]⟩ .bf16) (r : IVec S512x1 32)
    (x3 : FVec Ideal S4x256x512 .bf16) (h : Cert.Pre_routes_in_range_KernelIdeal.fn (F := Ideal) x0 x1 r x3 = fun _ => 1#1) (t : Fin 512) :
    routeAt r t < 128 := by
  have h1 := congrFun h (fun a => a.elim0)
  have h2 := Host.reduce_andi_all _ _ _ _ _ h1 (ix2 t (0 : Fin 1))
  obtain ⟨ha, hb⟩ := IntOp.andi_eq_one.1 h2
  have ha' : IntOp.cmpi .sge (r (ix2 t (0 : Fin 1))) 0#32 = 1#1 := ha
  have hb' : IntOp.cmpi .slt (r (ix2 t (0 : Fin 1))) 128#32 = 1#1 := hb
  rw [WordCmp.cmpi_sge_eq, ofBool_one] at ha'
  rw [WordCmp.cmpi_slt_eq, ofBool_one] at hb'
  unfold routeAt
  generalize r (ix2 t (0 : Fin 1)) = b at ha' hb' ⊢
  have e0 : (0#32).toInt = 0 := by decide
  have e1 : (128#32).toInt = 128 := by decide
  rw [e0] at ha'
  rw [e1] at hb'
  rw [BitVec.toInt_eq_toNat_cond] at ha' hb'
  have := b.isLt
  split at ha' <;> omega

end Cert.MoE
-- ==== Proof.Equal.lean ====
/-
# Kernel and reference agree

On the model of real numbers, with every route below the number of experts, the kernel leaves the reference's result on
every device.
-/
module

public import proofs.«01_k».proof.Proof.Value

@[expose] public section
noncomputable section

namespace Cert.MoE

open Idealize.ShloMosaic Idealize.ShloMosaic.TcCoe
open Idealize.SL.Sem
open scoped BigOperators

/-- A device's block of the experts, read at an index. -/
theorem block_expert (W : FVec Ideal ⟨3, ![128, 256, 512]⟩ .bf16) (d : Fin 32) (e : Fin 4) (k : Fin 256) (n : Fin 512) :
    (Layout.block ⟨3, ![4, 256, 512]⟩ ⟨3, ![128, 256, 512]⟩ 0 32 d W) (ix3 e k n) = W (ix3 (⟨4 * d.val + e.val, by omega⟩ : Fin 128) k n) := by
  rw [Layout.block_apply]
  refine congrArg W (funext fun a => Fin.ext ?_)
  rw [Layout.Tiles.idx_val]
  match a with
  | ⟨0, _⟩ =>
    show d.val * 4 + e.val = 4 * d.val + e.val
    omega
  | ⟨1, _⟩ => rfl
  | ⟨2, _⟩ => rfl

section
variable (m' : (ℓ : Loc Cert.ReferenceIdeal.nD Cert.ReferenceIdeal.τ Cert.ReferenceIdeal.sig) → Buf (Elt Ideal) ℓ)

/-- The reference's result at a token and a column. -/
theorem ref_eq (c : Dev Cert.ReferenceIdeal.nD) (x : FVec Ideal ⟨2, ![512, 256]⟩ .bf16) (r : IVec ⟨2, ![512, 1]⟩ 32) (W : FVec Ideal ⟨3, ![128, 256, 512]⟩ .bf16)
    (hr : m' ((c.tc : Thread Cert.ReferenceIdeal.nD Cert.ReferenceIdeal.τ).loc Cert.ReferenceIdeal.main_arg2) = r)
    (hv : ∀ t, routeAt r t < 128) (t n : Fin 512) :
    (Ref.refOut (F := Ideal) x (Ref.flat (F := Ideal) r) (Ref.keepEnd m' c) W : FVec Ideal ⟨2, ![512, 512]⟩ .f32) (ix2 t n)
      = if rankAt r t < 3 then ∑ k : Fin 256, x (ix2 t k) * W (ix3 (⟨routeAt r t, hv t⟩ : Fin 128) k n) else (0 : EReal) := by
  have hroute : Ref.routeNat (Ref.flat (F := Ideal) r) = routeAt r := funext fun i => congrArg BitVec.toNat (Ref.flat_apply r i)
  have hk := Ref.keepEnd_apply m' c (fun i => by rw [hr, hroute]; exact hv i) t
  rw [hr, hroute] at hk
  refine (Ref.refOut_apply x _ _ W t n ⟨routeAt r t, hv t⟩ (congrFun hroute t)).trans ?_
  refine if_congr ?_ rfl rfl
  refine (iff_of_eq (congrArg (· = 1#1) hk)).trans ?_
  show (if rankAt r t < 3 then (1#1 : BitVec 1) else 0#1) = 1#1 ↔ rankAt r t < 3
  by_cases h : rankAt r t < 3 <;> simp [h]

end

/-- From equal arguments, every route in range, the kernel and the reference leave one result. -/
theorem equal_results : Cert.algebraic_KernelIdeal_ReferenceIdeal_pre_routes_in_range_KernelIdeal := by
  intro m g m' g' hpre hin
  let c0 : Dev Cert.ReferenceIdeal.nD := 0
  let x : FVec Ideal ⟨2, ![512, 256]⟩ .bf16 := m' ((c0.tc : Thread Cert.ReferenceIdeal.nD Cert.ReferenceIdeal.τ).loc Cert.ReferenceIdeal.main_arg0)
  let r : IVec ⟨2, ![512, 1]⟩ 32 := m' ((c0.tc : Thread Cert.ReferenceIdeal.nD Cert.ReferenceIdeal.τ).loc Cert.ReferenceIdeal.main_arg2)
  let W : FVec Ideal ⟨3, ![128, 256, 512]⟩ .bf16 := m' ((c0.tc : Thread Cert.ReferenceIdeal.nD Cert.ReferenceIdeal.τ).loc Cert.ReferenceIdeal.main_arg3)
  have hv : ∀ t, routeAt r t < 128 := fun t => by
    have h := range_of_pre _ _ _ _ (hpre 0) t
    rw [(hin 0).2.2.1] at h
    exact h
  have G : Given m x r W :=
    { tokens := fun d => (hin d).1
      routes := fun d => (hin d).2.2.1
      experts := fun d e k n => (congrFun (hin d).2.2.2 (ix3 e k n)).trans (block_expert W d e k n)
      range := hv }
  refine ⟨Ref.refOut (F := Ideal) x (Ref.flat (F := Ideal) r) (Ref.keepEnd m' c0) W, ?_, ?_⟩
  · refine (θ_run _ _ _).mono (fun q h c => ?_) (run_kernel m g)
    refine ⟨(h.1 c).1.trans (funext fun i => ?_), (h.1 c).2⟩
    obtain ⟨t, n, rfl⟩ : ∃ t n : Fin 512, i = ix2 t n := ⟨i 0, i 1, funext fun a => by match a with | ⟨0, _⟩ => rfl | ⟨1, _⟩ => rfl⟩
    exact (out_eq g G c t n).trans (ref_eq m' c0 x r W rfl hv t n).symm
  · exact (θ_run _ _ _).mono (fun q h => h.1 c0) (Ref.run_ref m' g')

end Cert.MoE
-- ==== Proof.lean ====
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Run
public import proofs.«01_k».proof.Proof.Equal
public import proofs.«01_k».proof.Proof.Gen.ReferenceIdeal
public import proofs.«01_k».proof.Proof.Gen.ReferenceIdeal.Run
public import proofs.«01_k».proof.Proof.Gen.Pre_routes_in_range_KernelIdeal
public import proofs.«01_k».proof.Proof.Gen.Pre_routes_in_range_ReferenceIdeal
public import Idealize.ShloMosaic.Adequacy
public import Idealize.ShloMosaic.Init

@[expose] public section

noncomputable section

namespace Cert.Proof

open Idealize.ShloMosaic Idealize.SL.Sem Cert.Kernel

/-- Everything claimed: the three frames, with and without the routes in range; the float program and the idealized one
are the same text; and kernel and reference leave one result on the model of real numbers. -/
theorem claim : Cert.Claim := ⟨Cert.Kernel.Gen.facts, Cert.KernelIdeal.Gen.facts, Cert.ReferenceIdeal.Gen.facts,
  Cert.Pre_routes_in_range_KernelIdeal.Gen.facts, Cert.Pre_routes_in_range_ReferenceIdeal.Gen.facts,
  Cert.MoE.frame_kernel, Cert.MoE.frame_kernelIdeal, Cert.MoE.frame_kernelIdeal_pre, Cert.MoE.Ref.frame_ref, Cert.MoE.Ref.frame_ref_pre,
  trivial, Cert.MoE.equal_results⟩

end Cert.Proof

end
